-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S1024 .f32) (main_arg2 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_x_finite_ReferenceIdeal.lean ====
abbrev S2048x16384 : Shape := ⟨2, ![2048, 16384]⟩
abbrev S16384 : Shape := ⟨1, ![16384]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel

variable [Facts]

def fn {F : FTy → Type} [FloatOps F] (main_arg0 : FVec F S2048x16384 .f32) (main_arg1 : FVec F S16384 .f32) (main_arg2 : FVec F S16384 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  main_v3
-- ==== Kernel.lean ====
abbrev S2048x1024 : Shape := ⟨2, ![2048, 1024]⟩
abbrev S1024 : Shape := ⟨1, ![1024]⟩
abbrev S2x2x1024 : Shape := ⟨3, ![2, 2, 1024]⟩
abbrev S2x2x3x2x1024 : Shape := ⟨5, ![2, 2, 3, 2, 1024]⟩
abbrev S2x2x3 : Shape := ⟨3, ![2, 2, 3]⟩
abbrev S8 : Shape := ⟨1, ![8]⟩
abbrev S_ : Shape := ⟨0, ![]⟩
abbrev S1 : Shape := ⟨1, ![1]⟩
abbrev S256x1024 : Shape := ⟨2, ![256, 1024]⟩
abbrev S256 : Shape := ⟨1, ![256]⟩
abbrev S1x1x256 : Shape := ⟨3, ![1, 1, 256]⟩
abbrev S1x1x1 : Shape := ⟨3, ![1, 1, 1]⟩
abbrev S1x1x1x2x1024 : Shape := ⟨5, ![1, 1, 1, 2, 1024]⟩
abbrev S2x1024 : Shape := ⟨2, ![2, 1024]⟩
abbrev S1x2x1024 : Shape := ⟨3, ![1, 2, 1024]⟩
abbrev S1x1x1024 : Shape := ⟨3, ![1, 1, 1024]⟩
abbrev S1024x1 : Shape := ⟨2, ![1024, 1]⟩
abbrev S1x1024 : Shape := ⟨2, ![1, 1024]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .bf16⟩
  | .local _ .vmem, ⟨0, _⟩ => ⟨S1024, .f32⟩
  | .local _ .vmem, ⟨1, _⟩ => ⟨S1024, .f32⟩
  | .local _ .vmem, ⟨2, _⟩ => ⟨S2048x1024, .f32⟩
  | .local _ .vmem, ⟨3, _⟩ => ⟨S2048x1024, .bf16⟩
  | .local _ .vmem, ⟨4, _⟩ => ⟨S2x2x1024, .f32⟩
  | .local _ .vmem, ⟨5, _⟩ => ⟨S2x2x3x2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c1_i32_6 : BitVec 32 := 1#32
  let v21 : BitVec 32 := Scalar.addi v2 c1_i32_6
  let c4_i32_7 : BitVec 32 := 4#32
  let c0_i32_8 : BitVec 32 := 0#32
  let v22 : BitVec 1 := Scalar.cmpi .eq c4_i32_7 c0_i32_8
  let c1_i32_9 : BitVec 32 := 1#32
  let v23 : BitVec 32 := Scalar.select v22 c1_i32_9 c4_i32_7
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let v32 : BitVec 32 := Scalar.addi v20 v31
  let c1_i32_75 : BitVec 32 := 1#32
  let v123 : BitVec 32 := Scalar.muli v32 c1_i32_75
  let v124 : BitVec 32 := Scalar.addi c0_i32_76 v123
  v124.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c2_i32 : BitVec 32 := 2#32
  let v33 : BitVec 32 := Scalar.addi v2 c2_i32
  let c4_i32_13 : BitVec 32 := 4#32
  let c0_i32_14 : BitVec 32 := 0#32
  let v34 : BitVec 1 := Scalar.cmpi .eq c4_i32_13 c0_i32_14
  let c1_i32_15 : BitVec 32 := 1#32
  let v35 : BitVec 32 := Scalar.select v34 c1_i32_15 c4_i32_13
  let v36 : BitVec 32 := Scalar.remsi v33 v35
  let c0_i32_17 : BitVec 32 := 0#32
  let v38 : BitVec 1 := Scalar.cmpi .slt v36 c0_i32_17
  let c0_i32_18 : BitVec 32 := 0#32
  let v39 : BitVec 1 := Scalar.cmpi .slt v35 c0_i32_18
  let v40 : BitVec 1 := Scalar.xori v38 v39
  let c0_i32_16 : BitVec 32 := 0#32
  let v37 : BitVec 1 := Scalar.cmpi .ne v36 c0_i32_16
  let v41 : BitVec 1 := Scalar.andi v40 v37
  let v42 : BitVec 32 := Scalar.addi v36 v35
  let v43 : BitVec 32 := Scalar.select v41 v42 v36
  let v44 : BitVec 32 := Scalar.addi v20 v43
  let c1_i32_78 : BitVec 32 := 1#32
  let v125 : BitVec 32 := Scalar.muli v44 c1_i32_78
  let v126 : BitVec 32 := Scalar.addi c0_i32_79 v125
  v126.toNat
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c3_i32 : BitVec 32 := 3#32
  let v45 : BitVec 32 := Scalar.addi v2 c3_i32
  let c4_i32_19 : BitVec 32 := 4#32
  let c0_i32_20 : BitVec 32 := 0#32
  let v46 : BitVec 1 := Scalar.cmpi .eq c4_i32_19 c0_i32_20
  let c1_i32_21 : BitVec 32 := 1#32
  let v47 : BitVec 32 := Scalar.select v46 c1_i32_21 c4_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let v56 : BitVec 32 := Scalar.addi v20 v55
  let c1_i32_81 : BitVec 32 := 1#32
  let v127 : BitVec 32 := Scalar.muli v56 c1_i32_81
  let v128 : BitVec 32 := Scalar.addi c0_i32_82 v127
  v128.toNat
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_25 : BitVec 32 := 4#32
  let v57 : BitVec 32 := Scalar.addi v2 c4_i32_25
  let c16_i32_26 : BitVec 32 := 16#32
  let c0_i32_27 : BitVec 32 := 0#32
  let v58 : BitVec 1 := Scalar.cmpi .eq c16_i32_26 c0_i32_27
  let c1_i32_28 : BitVec 32 := 1#32
  let v59 : BitVec 32 := Scalar.select v58 c1_i32_28 c16_i32_26
  let v60 : BitVec 32 := Scalar.remsi v57 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c1_i32_84 : BitVec 32 := 1#32
  let v129 : BitVec 32 := Scalar.muli v67 c1_i32_84
  let v130 : BitVec 32 := Scalar.addi c0_i32_85 v129
  v130.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v68 : BitVec 32 := Scalar.addi v2 c8_i32
  let c16_i32_32 : BitVec 32 := 16#32
  let c0_i32_33 : BitVec 32 := 0#32
  let v69 : BitVec 1 := Scalar.cmpi .eq c16_i32_32 c0_i32_33
  let c1_i32_34 : BitVec 32 := 1#32
  let v70 : BitVec 32 := Scalar.select v69 c1_i32_34 c16_i32_32
  let v71 : BitVec 32 := Scalar.remsi v68 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let c1_i32_87 : BitVec 32 := 1#32
  let v131 : BitVec 32 := Scalar.muli v78 c1_i32_87
  let v132 : BitVec 32 := Scalar.addi c0_i32_88 v131
  v132.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v79 : BitVec 32 := Scalar.addi v2 c12_i32
  let c16_i32_38 : BitVec 32 := 16#32
  let c0_i32_39 : BitVec 32 := 0#32
  let v80 : BitVec 1 := Scalar.cmpi .eq c16_i32_38 c0_i32_39
  let c1_i32_40 : BitVec 32 := 1#32
  let v81 : BitVec 32 := Scalar.select v80 c1_i32_40 c16_i32_38
  let v82 : BitVec 32 := Scalar.remsi v79 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let c1_i32_90 : BitVec 32 := 1#32
  let v133 : BitVec 32 := Scalar.muli v89 c1_i32_90
  let v134 : BitVec 32 := Scalar.addi c0_i32_91 v133
  v134.toNat
def k0_dev7 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c1_i32_6 : BitVec 32 := 1#32
  let v21 : BitVec 32 := Scalar.addi v2 c1_i32_6
  let c4_i32_7 : BitVec 32 := 4#32
  let c0_i32_8 : BitVec 32 := 0#32
  let v22 : BitVec 1 := Scalar.cmpi .eq c4_i32_7 c0_i32_8
  let c1_i32_9 : BitVec 32 := 1#32
  let v23 : BitVec 32 := Scalar.select v22 c1_i32_9 c4_i32_7
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let v32 : BitVec 32 := Scalar.addi v20 v31
  let c1_i32_157 : BitVec 32 := 1#32
  let v191 : BitVec 32 := Scalar.muli v32 c1_i32_157
  let v192 : BitVec 32 := Scalar.addi c0_i32_158 v191
  v192.toNat
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c2_i32 : BitVec 32 := 2#32
  let v33 : BitVec 32 := Scalar.addi v2 c2_i32
  let c4_i32_13 : BitVec 32 := 4#32
  let c0_i32_14 : BitVec 32 := 0#32
  let v34 : BitVec 1 := Scalar.cmpi .eq c4_i32_13 c0_i32_14
  let c1_i32_15 : BitVec 32 := 1#32
  let v35 : BitVec 32 := Scalar.select v34 c1_i32_15 c4_i32_13
  let v36 : BitVec 32 := Scalar.remsi v33 v35
  let c0_i32_17 : BitVec 32 := 0#32
  let v38 : BitVec 1 := Scalar.cmpi .slt v36 c0_i32_17
  let c0_i32_18 : BitVec 32 := 0#32
  let v39 : BitVec 1 := Scalar.cmpi .slt v35 c0_i32_18
  let v40 : BitVec 1 := Scalar.xori v38 v39
  let c0_i32_16 : BitVec 32 := 0#32
  let v37 : BitVec 1 := Scalar.cmpi .ne v36 c0_i32_16
  let v41 : BitVec 1 := Scalar.andi v40 v37
  let v42 : BitVec 32 := Scalar.addi v36 v35
  let v43 : BitVec 32 := Scalar.select v41 v42 v36
  let v44 : BitVec 32 := Scalar.addi v20 v43
  let c1_i32_173 : BitVec 32 := 1#32
  let v201 : BitVec 32 := Scalar.muli v44 c1_i32_173
  let v202 : BitVec 32 := Scalar.addi c0_i32_174 v201
  v202.toNat
def k0_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c3_i32 : BitVec 32 := 3#32
  let v45 : BitVec 32 := Scalar.addi v2 c3_i32
  let c4_i32_19 : BitVec 32 := 4#32
  let c0_i32_20 : BitVec 32 := 0#32
  let v46 : BitVec 1 := Scalar.cmpi .eq c4_i32_19 c0_i32_20
  let c1_i32_21 : BitVec 32 := 1#32
  let v47 : BitVec 32 := Scalar.select v46 c1_i32_21 c4_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let v56 : BitVec 32 := Scalar.addi v20 v55
  let c1_i32_189 : BitVec 32 := 1#32
  let v211 : BitVec 32 := Scalar.muli v56 c1_i32_189
  let v212 : BitVec 32 := Scalar.addi c0_i32_190 v211
  v212.toNat
def k0_dev10 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c1_i32_6 : BitVec 32 := 1#32
  let v21 : BitVec 32 := Scalar.addi v2 c1_i32_6
  let c4_i32_7 : BitVec 32 := 4#32
  let c0_i32_8 : BitVec 32 := 0#32
  let v22 : BitVec 1 := Scalar.cmpi .eq c4_i32_7 c0_i32_8
  let c1_i32_9 : BitVec 32 := 1#32
  let v23 : BitVec 32 := Scalar.select v22 c1_i32_9 c4_i32_7
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let v32 : BitVec 32 := Scalar.addi v20 v31
  let c1_i32_261 : BitVec 32 := 1#32
  let v277 : BitVec 32 := Scalar.muli v32 c1_i32_261
  let v278 : BitVec 32 := Scalar.addi c0_i32_262 v277
  v278.toNat
def k0_dev11 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c2_i32 : BitVec 32 := 2#32
  let v33 : BitVec 32 := Scalar.addi v2 c2_i32
  let c4_i32_13 : BitVec 32 := 4#32
  let c0_i32_14 : BitVec 32 := 0#32
  let v34 : BitVec 1 := Scalar.cmpi .eq c4_i32_13 c0_i32_14
  let c1_i32_15 : BitVec 32 := 1#32
  let v35 : BitVec 32 := Scalar.select v34 c1_i32_15 c4_i32_13
  let v36 : BitVec 32 := Scalar.remsi v33 v35
  let c0_i32_17 : BitVec 32 := 0#32
  let v38 : BitVec 1 := Scalar.cmpi .slt v36 c0_i32_17
  let c0_i32_18 : BitVec 32 := 0#32
  let v39 : BitVec 1 := Scalar.cmpi .slt v35 c0_i32_18
  let v40 : BitVec 1 := Scalar.xori v38 v39
  let c0_i32_16 : BitVec 32 := 0#32
  let v37 : BitVec 1 := Scalar.cmpi .ne v36 c0_i32_16
  let v41 : BitVec 1 := Scalar.andi v40 v37
  let v42 : BitVec 32 := Scalar.addi v36 v35
  let v43 : BitVec 32 := Scalar.select v41 v42 v36
  let v44 : BitVec 32 := Scalar.addi v20 v43
  let c1_i32_277 : BitVec 32 := 1#32
  let v287 : BitVec 32 := Scalar.muli v44 c1_i32_277
  let v288 : BitVec 32 := Scalar.addi c0_i32_278 v287
  v288.toNat
def k0_dev12 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c3_i32 : BitVec 32 := 3#32
  let v45 : BitVec 32 := Scalar.addi v2 c3_i32
  let c4_i32_19 : BitVec 32 := 4#32
  let c0_i32_20 : BitVec 32 := 0#32
  let v46 : BitVec 1 := Scalar.cmpi .eq c4_i32_19 c0_i32_20
  let c1_i32_21 : BitVec 32 := 1#32
  let v47 : BitVec 32 := Scalar.select v46 c1_i32_21 c4_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let v56 : BitVec 32 := Scalar.addi v20 v55
  let c1_i32_293 : BitVec 32 := 1#32
  let v297 : BitVec 32 := Scalar.muli v56 c1_i32_293
  let v298 : BitVec 32 := Scalar.addi c0_i32_294 v297
  v298.toNat
def k0_dev13 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_25 : BitVec 32 := 4#32
  let v57 : BitVec 32 := Scalar.addi v2 c4_i32_25
  let c16_i32_26 : BitVec 32 := 16#32
  let c0_i32_27 : BitVec 32 := 0#32
  let v58 : BitVec 1 := Scalar.cmpi .eq c16_i32_26 c0_i32_27
  let c1_i32_28 : BitVec 32 := 1#32
  let v59 : BitVec 32 := Scalar.select v58 c1_i32_28 c16_i32_26
  let v60 : BitVec 32 := Scalar.remsi v57 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c1_i32_422 : BitVec 32 := 1#32
  let v363 : BitVec 32 := Scalar.muli v67 c1_i32_422
  let v364 : BitVec 32 := Scalar.addi c0_i32_423 v363
  v364.toNat
def k0_dev14 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v68 : BitVec 32 := Scalar.addi v2 c8_i32
  let c16_i32_32 : BitVec 32 := 16#32
  let c0_i32_33 : BitVec 32 := 0#32
  let v69 : BitVec 1 := Scalar.cmpi .eq c16_i32_32 c0_i32_33
  let c1_i32_34 : BitVec 32 := 1#32
  let v70 : BitVec 32 := Scalar.select v69 c1_i32_34 c16_i32_32
  let v71 : BitVec 32 := Scalar.remsi v68 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let c1_i32_438 : BitVec 32 := 1#32
  let v373 : BitVec 32 := Scalar.muli v78 c1_i32_438
  let v374 : BitVec 32 := Scalar.addi c0_i32_439 v373
  v374.toNat
def k0_dev15 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v79 : BitVec 32 := Scalar.addi v2 c12_i32
  let c16_i32_38 : BitVec 32 := 16#32
  let c0_i32_39 : BitVec 32 := 0#32
  let v80 : BitVec 1 := Scalar.cmpi .eq c16_i32_38 c0_i32_39
  let c1_i32_40 : BitVec 32 := 1#32
  let v81 : BitVec 32 := Scalar.select v80 c1_i32_40 c16_i32_38
  let v82 : BitVec 32 := Scalar.remsi v79 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let c1_i32_454 : BitVec 32 := 1#32
  let v383 : BitVec 32 := Scalar.muli v89 c1_i32_454
  let v384 : BitVec 32 := Scalar.addi c0_i32_455 v383
  v384.toNat
def k0_dev16 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_25 : BitVec 32 := 4#32
  let v57 : BitVec 32 := Scalar.addi v2 c4_i32_25
  let c16_i32_26 : BitVec 32 := 16#32
  let c0_i32_27 : BitVec 32 := 0#32
  let v58 : BitVec 1 := Scalar.cmpi .eq c16_i32_26 c0_i32_27
  let c1_i32_28 : BitVec 32 := 1#32
  let v59 : BitVec 32 := Scalar.select v58 c1_i32_28 c16_i32_26
  let v60 : BitVec 32 := Scalar.remsi v57 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c1_i32_584 : BitVec 32 := 1#32
  let v449 : BitVec 32 := Scalar.muli v67 c1_i32_584
  let v450 : BitVec 32 := Scalar.addi c0_i32_585 v449
  v450.toNat
def k0_dev17 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v68 : BitVec 32 := Scalar.addi v2 c8_i32
  let c16_i32_32 : BitVec 32 := 16#32
  let c0_i32_33 : BitVec 32 := 0#32
  let v69 : BitVec 1 := Scalar.cmpi .eq c16_i32_32 c0_i32_33
  let c1_i32_34 : BitVec 32 := 1#32
  let v70 : BitVec 32 := Scalar.select v69 c1_i32_34 c16_i32_32
  let v71 : BitVec 32 := Scalar.remsi v68 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let c1_i32_600 : BitVec 32 := 1#32
  let v459 : BitVec 32 := Scalar.muli v78 c1_i32_600
  let v460 : BitVec 32 := Scalar.addi c0_i32_601 v459
  v460.toNat
def k0_dev18 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v79 : BitVec 32 := Scalar.addi v2 c12_i32
  let c16_i32_38 : BitVec 32 := 16#32
  let c0_i32_39 : BitVec 32 := 0#32
  let v80 : BitVec 1 := Scalar.cmpi .eq c16_i32_38 c0_i32_39
  let c1_i32_40 : BitVec 32 := 1#32
  let v81 : BitVec 32 := Scalar.select v80 c1_i32_40 c16_i32_38
  let v82 : BitVec 32 := Scalar.remsi v79 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let c1_i32_616 : BitVec 32 := 1#32
  let v469 : BitVec 32 := Scalar.muli v89 c1_i32_616
  let v470 : BitVec 32 := Scalar.addi c0_i32_617 v469
  v470.toNat
def k0_dev19 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c1_i32_6 : BitVec 32 := 1#32
  let v21 : BitVec 32 := Scalar.addi v2 c1_i32_6
  let c4_i32_7 : BitVec 32 := 4#32
  let c0_i32_8 : BitVec 32 := 0#32
  let v22 : BitVec 1 := Scalar.cmpi .eq c4_i32_7 c0_i32_8
  let c1_i32_9 : BitVec 32 := 1#32
  let v23 : BitVec 32 := Scalar.select v22 c1_i32_9 c4_i32_7
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let v32 : BitVec 32 := Scalar.addi v20 v31
  let c1_i32_898 : BitVec 32 := 1#32
  let v688 : BitVec 32 := Scalar.muli v32 c1_i32_898
  let v689 : BitVec 32 := Scalar.addi c0_i32_899 v688
  v689.toNat
def k0_dev20 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c2_i32 : BitVec 32 := 2#32
  let v33 : BitVec 32 := Scalar.addi v2 c2_i32
  let c4_i32_13 : BitVec 32 := 4#32
  let c0_i32_14 : BitVec 32 := 0#32
  let v34 : BitVec 1 := Scalar.cmpi .eq c4_i32_13 c0_i32_14
  let c1_i32_15 : BitVec 32 := 1#32
  let v35 : BitVec 32 := Scalar.select v34 c1_i32_15 c4_i32_13
  let v36 : BitVec 32 := Scalar.remsi v33 v35
  let c0_i32_17 : BitVec 32 := 0#32
  let v38 : BitVec 1 := Scalar.cmpi .slt v36 c0_i32_17
  let c0_i32_18 : BitVec 32 := 0#32
  let v39 : BitVec 1 := Scalar.cmpi .slt v35 c0_i32_18
  let v40 : BitVec 1 := Scalar.xori v38 v39
  let c0_i32_16 : BitVec 32 := 0#32
  let v37 : BitVec 1 := Scalar.cmpi .ne v36 c0_i32_16
  let v41 : BitVec 1 := Scalar.andi v40 v37
  let v42 : BitVec 32 := Scalar.addi v36 v35
  let v43 : BitVec 32 := Scalar.select v41 v42 v36
  let v44 : BitVec 32 := Scalar.addi v20 v43
  let c1_i32_901 : BitVec 32 := 1#32
  let v690 : BitVec 32 := Scalar.muli v44 c1_i32_901
  let v691 : BitVec 32 := Scalar.addi c0_i32_902 v690
  v691.toNat
def k0_dev21 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c3_i32 : BitVec 32 := 3#32
  let v45 : BitVec 32 := Scalar.addi v2 c3_i32
  let c4_i32_19 : BitVec 32 := 4#32
  let c0_i32_20 : BitVec 32 := 0#32
  let v46 : BitVec 1 := Scalar.cmpi .eq c4_i32_19 c0_i32_20
  let c1_i32_21 : BitVec 32 := 1#32
  let v47 : BitVec 32 := Scalar.select v46 c1_i32_21 c4_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let v56 : BitVec 32 := Scalar.addi v20 v55
  let c1_i32_904 : BitVec 32 := 1#32
  let v692 : BitVec 32 := Scalar.muli v56 c1_i32_904
  let v693 : BitVec 32 := Scalar.addi c0_i32_905 v692
  v693.toNat
def k0_dev22 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_25 : BitVec 32 := 4#32
  let v57 : BitVec 32 := Scalar.addi v2 c4_i32_25
  let c16_i32_26 : BitVec 32 := 16#32
  let c0_i32_27 : BitVec 32 := 0#32
  let v58 : BitVec 1 := Scalar.cmpi .eq c16_i32_26 c0_i32_27
  let c1_i32_28 : BitVec 32 := 1#32
  let v59 : BitVec 32 := Scalar.select v58 c1_i32_28 c16_i32_26
  let v60 : BitVec 32 := Scalar.remsi v57 v59
  let c0_i32_30 : BitVec 32 := 0#32
  let v62 : BitVec 1 := Scalar.cmpi .slt v60 c0_i32_30
  let c0_i32_31 : BitVec 32 := 0#32
  let v63 : BitVec 1 := Scalar.cmpi .slt v59 c0_i32_31
  let v64 : BitVec 1 := Scalar.xori v62 v63
  let c0_i32_29 : BitVec 32 := 0#32
  let v61 : BitVec 1 := Scalar.cmpi .ne v60 c0_i32_29
  let v65 : BitVec 1 := Scalar.andi v64 v61
  let v66 : BitVec 32 := Scalar.addi v60 v59
  let v67 : BitVec 32 := Scalar.select v65 v66 v60
  let c1_i32_907 : BitVec 32 := 1#32
  let v694 : BitVec 32 := Scalar.muli v67 c1_i32_907
  let v695 : BitVec 32 := Scalar.addi c0_i32_908 v694
  v695.toNat
def k0_dev23 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v68 : BitVec 32 := Scalar.addi v2 c8_i32
  let c16_i32_32 : BitVec 32 := 16#32
  let c0_i32_33 : BitVec 32 := 0#32
  let v69 : BitVec 1 := Scalar.cmpi .eq c16_i32_32 c0_i32_33
  let c1_i32_34 : BitVec 32 := 1#32
  let v70 : BitVec 32 := Scalar.select v69 c1_i32_34 c16_i32_32
  let v71 : BitVec 32 := Scalar.remsi v68 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let c1_i32_910 : BitVec 32 := 1#32
  let v696 : BitVec 32 := Scalar.muli v78 c1_i32_910
  let v697 : BitVec 32 := Scalar.addi c0_i32_911 v696
  v697.toNat
def k0_dev24 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v79 : BitVec 32 := Scalar.addi v2 c12_i32
  let c16_i32_38 : BitVec 32 := 16#32
  let c0_i32_39 : BitVec 32 := 0#32
  let v80 : BitVec 1 := Scalar.cmpi .eq c16_i32_38 c0_i32_39
  let c1_i32_40 : BitVec 32 := 1#32
  let v81 : BitVec 32 := Scalar.select v80 c1_i32_40 c16_i32_38
  let v82 : BitVec 32 := Scalar.remsi v79 v81
  let c0_i32_42 : BitVec 32 := 0#32
  let v84 : BitVec 1 := Scalar.cmpi .slt v82 c0_i32_42
  let c0_i32_43 : BitVec 32 := 0#32
  let v85 : BitVec 1 := Scalar.cmpi .slt v81 c0_i32_43
  let v86 : BitVec 1 := Scalar.xori v84 v85
  let c0_i32_41 : BitVec 32 := 0#32
  let v83 : BitVec 1 := Scalar.cmpi .ne v82 c0_i32_41
  let v87 : BitVec 1 := Scalar.andi v86 v83
  let v88 : BitVec 32 := Scalar.addi v82 v81
  let v89 : BitVec 32 := Scalar.select v87 v88 v82
  let c1_i32_913 : BitVec 32 := 1#32
  let v698 : BitVec 32 := Scalar.muli v89 c1_i32_913
  let v699 : BitVec 32 := Scalar.addi c0_i32_914 v698
  v699.toNat
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x16384 : Shape := ⟨2, ![2048, 16384]⟩
abbrev S16384 : Shape := ⟨1, ![16384]⟩
abbrev S_ : Shape := ⟨0, ![]⟩
abbrev S2048 : Shape := ⟨1, ![2048]⟩
abbrev S2048x1 : Shape := ⟨2, ![2048, 1]⟩
abbrev S1x16384 : Shape := ⟨2, ![1, 16384]⟩

abbrev nBuf : Space → Nat
  | .hbm => 48
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x16384, .f32⟩
  | .hbm, ⟨17, _⟩ => ⟨S2048x16384, .f32⟩
  | .hbm, ⟨18, _⟩ => ⟨S2048x16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x16384, .f32⟩
  | .hbm, ⟨34, _⟩ => ⟨S2048x16384, .f32⟩
  | .hbm, ⟨35, _⟩ => ⟨S1x16384, .f32⟩
  | .hbm, ⟨36, _⟩ => ⟨S2048x16384, .f32⟩
  | .hbm, ⟨37, _⟩ => ⟨S2048x16384, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x16384, .f32⟩
  | .hbm, ⟨43, _⟩ => ⟨S2048x16384, .f32⟩
  | .hbm, ⟨44, _⟩ => ⟨S1x16384, .f32⟩
  | .hbm, ⟨45, _⟩ => ⟨S2048x16384, .f32⟩
  | .hbm, ⟨46, _⟩ => ⟨S2048x16384, .f32⟩
  | .hbm, ⟨47, _⟩ => ⟨S2048x16384, .bf16⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]
-- ==== Proof.Norm.Proto.lean ====
/-
# The protocol of the sixteen devices

The sixteen devices form a 4 × 4 grid. Each one adds up, per row, its own columns and their squares, first for the
upper half of the rows (chunk 0), then for the lower half (chunk 1). A chunk's sums are exchanged in two phases: with
the three other devices of the same row of the grid, then with the three others of the same column. Each exchange is
three sends into the partners' scratch.

This module names the partners, the buffers and the semaphores, and states what each semaphore's units stand for, as a
schedule of the rounds library with one round per semaphore:
* the barrier semaphore of a device gets one unit from each of its six partners; with it comes the right to write the
  two slots of that partner's scratch that this device's sends go to;
* a receive semaphore gets the units of one transfer, and with them the slot, holding the sender's sums;
* a send semaphore gets the units of one transfer, and with them the share of the sums that was lent to it;
* the exit semaphore gets one unit from each partner, with nothing.

The sums are a parameter here: `A ph ch c` is what device `c` holds for chunk `ch` when phase `ph` starts.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part, the schedule's, whose duties are numbered 0 to 5, and the local transfers' counters -/

abbrev UB : Type := URounds (GSem nD τ sig) (Fin 6)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The schedule's part: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters the local transfers draw on. -/
abbrev EC : UEmb Counters (MT nD τ sig Unit (Elt F) ℕ UU ℕ) := countersEmb

abbrev 𝒱₀ : Variants := Variants.none

/-! ## Partners -/

set_option backward.proofsInPublic true in
/-- Partner `j` of a device: 0, 1, 2 are the next ones in its row of the grid, 3, 4, 5 those in its column. -/
def part (j : Fin 6) (c : Dev nD) : Dev nD :=
  if j.val < 3 then ⟨4 * (c.val / 4) + (c.val % 4 + j.val + 1) % 4, by have := c.isLt; show _ < 16; change c.val < 16 at this; omega⟩
  else ⟨(c.val + 4 * (j.val - 2)) % 16, Nat.mod_lt _ (by decide)⟩

/-- The number under which a device is known to its partner `j`. -/
def rv : Fin 6 → Fin 6 := fun | 0 => 2 | 1 => 1 | 2 => 0 | 3 => 5 | 4 => 4 | 5 => 3

theorem part_rv (j : Fin 6) (c : Dev nD) : part (rv j) (part j c) = c := by revert j c; decide +kernel
theorem part_rv' (j : Fin 6) (c : Dev nD) : part j (part (rv j) c) = c := by revert j c; decide +kernel
theorem rv_rv (j : Fin 6) : rv (rv j) = j := by revert j; decide

/-- The `n`-th send's phase, chunk and partner; `mir n` is the slot it writes. -/
def phN (n : Fin 12) : Fin 2 := ⟨n.val / 6, by omega⟩
def chN (n : Fin 12) : Fin 2 := ⟨n.val / 3 % 2, by omega⟩
def jN (n : Fin 12) : Fin 6 := ⟨3 * (n.val / 6) + n.val % 3, by omega⟩
def mir (n : Fin 12) : Fin 12 := ⟨3 * (n.val / 3) + (2 - n.val % 3), by omega⟩
def nOf (j : Fin 6) (ch : Fin 2) : Fin 12 := ⟨6 * (j.val / 3) + 3 * ch.val + j.val % 3, by omega⟩
/-- The partner the `n`-th send goes to; it is also the device that slot `n` is written by. -/
def pd (n : Fin 12) (c : Dev nD) : Dev nD := part (jN n) c

theorem mir_mir (n : Fin 12) : mir (mir n) = n := by revert n; decide
theorem phN_mir (n : Fin 12) : phN (mir n) = phN n := by revert n; decide
theorem chN_mir (n : Fin 12) : chN (mir n) = chN n := by revert n; decide
theorem jN_mir (n : Fin 12) : jN (mir n) = rv (jN n) := by revert n; decide
theorem pd_mir (n : Fin 12) (c : Dev nD) : pd (mir n) (pd n c) = c := by unfold pd; rw [jN_mir, part_rv]
theorem pd_mir' (n : Fin 12) (c : Dev nD) : pd n (pd (mir n) c) = c := by unfold pd; rw [jN_mir, part_rv']
theorem jN_nOf (j : Fin 6) (ch : Fin 2) : jN (nOf j ch) = j := by revert j ch; decide
theorem mir_nOf (j : Fin 6) (ch : Fin 2) : mir (nOf (rv j) ch) = nOf j ch := by revert j ch; decide

/-! ## Buffers and semaphores -/

/-- Where slot `n` of the partners' scratch starts, `n` counting phase, chunk and slot in row order. -/
abbrev offS : Fin 12 → Fin 5 → ℕ := fun
  | 0 => ![0, 0, 0, 0, 0]
  | 1 => ![0, 0, 1, 0, 0]
  | 2 => ![0, 0, 2, 0, 0]
  | 3 => ![0, 1, 0, 0, 0]
  | 4 => ![0, 1, 1, 0, 0]
  | 5 => ![0, 1, 2, 0, 0]
  | 6 => ![1, 0, 0, 0, 0]
  | 7 => ![1, 0, 1, 0, 0]
  | 8 => ![1, 0, 2, 0, 0]
  | 9 => ![1, 1, 0, 0, 0]
  | 10 => ![1, 1, 1, 0, 0]
  | 11 => ![1, 1, 2, 0, 0]
theorem inbSl (n : Fin 12) : ∀ a, offS n a + S1x1x1x2x1024.size a ≤ S2x2x3x2x1024.size a := by revert n; decide
/-- Slot `n` of the partners' scratch. -/
abbrev slotM (n : Fin 12) : Memref sig .tc .vmem S2x1024 .f32 :=
  ((Memref.whole cc0_scratch3).slice (Rect.unit (s := S2x2x3x2x1024) (offS n) S1x1x1x2x1024.size (inbSl n)) (fun _ => rfl)).squeeze S2x1024 squeezes_S1x1x1x2x1024_S2x1024
/-- Where the accumulator's half for a chunk starts. -/
abbrev offC : Fin 2 → Fin 3 → ℕ := fun
  | 0 => ![0, 0, 0]
  | 1 => ![1, 0, 0]
theorem inbC (ch : Fin 2) : ∀ a, offC ch a + S1x2x1024.size a ≤ S2x2x1024.size a := by revert ch; decide
/-- The accumulator's half for a chunk. -/
abbrev accM (ch : Fin 2) : Memref sig .tc .vmem S2x1024 .f32 :=
  ((Memref.whole cc0_scratch2).slice (Rect.unit (s := S2x2x1024) (offC ch) S1x2x1024.size (inbC ch)) (fun _ => rfl)).squeeze S2x1024 squeezes_S1x2x1024_S2x1024
/-- The send semaphore of the `n`-th send. -/
abbrev sendS : Fin 12 → DmaSem sig := fun
  | 0 => ((cc0_scratch4.slice (Rect.unit (s := S2x2x3) ![0, 0, 0] S1x1x1.size inb_S2x2x3_S1x1x1_0_0_0)).squeeze S_ squeezes_S1x1x1_S_).sem
  | 1 => ((cc0_scratch4.slice (Rect.unit (s := S2x2x3) ![0, 0, 1] S1x1x1.size inb_S2x2x3_S1x1x1_0_0_1)).squeeze S_ squeezes_S1x1x1_S_).sem
  | 2 => ((cc0_scratch4.slice (Rect.unit (s := S2x2x3) ![0, 0, 2] S1x1x1.size inb_S2x2x3_S1x1x1_0_0_2)).squeeze S_ squeezes_S1x1x1_S_).sem
  | 3 => ((cc0_scratch4.slice (Rect.unit (s := S2x2x3) ![0, 1, 0] S1x1x1.size inb_S2x2x3_S1x1x1_0_1_0)).squeeze S_ squeezes_S1x1x1_S_).sem
  | 4 => ((cc0_scratch4.slice (Rect.unit (s := S2x2x3) ![0, 1, 1] S1x1x1.size inb_S2x2x3_S1x1x1_0_1_1)).squeeze S_ squeezes_S1x1x1_S_).sem
  | 5 => ((cc0_scratch4.slice (Rect.unit (s := S2x2x3) ![0, 1, 2] S1x1x1.size inb_S2x2x3_S1x1x1_0_1_2)).squeeze S_ squeezes_S1x1x1_S_).sem
  | 6 => ((cc0_scratch4.slice (Rect.unit (s := S2x2x3) ![1, 0, 0] S1x1x1.size inb_S2x2x3_S1x1x1_1_0_0)).squeeze S_ squeezes_S1x1x1_S_).sem
  | 7 => ((cc0_scratch4.slice (Rect.unit (s := S2x2x3) ![1, 0, 1] S1x1x1.size inb_S2x2x3_S1x1x1_1_0_1)).squeeze S_ squeezes_S1x1x1_S_).sem
  | 8 => ((cc0_scratch4.slice (Rect.unit (s := S2x2x3) ![1, 0, 2] S1x1x1.size inb_S2x2x3_S1x1x1_1_0_2)).squeeze S_ squeezes_S1x1x1_S_).sem
  | 9 => ((cc0_scratch4.slice (Rect.unit (s := S2x2x3) ![1, 1, 0] S1x1x1.size inb_S2x2x3_S1x1x1_1_1_0)).squeeze S_ squeezes_S1x1x1_S_).sem
  | 10 => ((cc0_scratch4.slice (Rect.unit (s := S2x2x3) ![1, 1, 1] S1x1x1.size inb_S2x2x3_S1x1x1_1_1_1)).squeeze S_ squeezes_S1x1x1_S_).sem
  | 11 => ((cc0_scratch4.slice (Rect.unit (s := S2x2x3) ![1, 1, 2] S1x1x1.size inb_S2x2x3_S1x1x1_1_1_2)).squeeze S_ squeezes_S1x1x1_S_).sem
/-- The receive semaphore of slot `n`. -/
abbrev recvS : Fin 12 → DmaSem sig := fun
  | 0 => ((cc0_scratch5.slice (Rect.unit (s := S2x2x3) ![0, 0, 0] S1x1x1.size inb_S2x2x3_S1x1x1_0_0_0)).squeeze S_ squeezes_S1x1x1_S_).sem
  | 1 => ((cc0_scratch5.slice (Rect.unit (s := S2x2x3) ![0, 0, 1] S1x1x1.size inb_S2x2x3_S1x1x1_0_0_1)).squeeze S_ squeezes_S1x1x1_S_).sem
  | 2 => ((cc0_scratch5.slice (Rect.unit (s := S2x2x3) ![0, 0, 2] S1x1x1.size inb_S2x2x3_S1x1x1_0_0_2)).squeeze S_ squeezes_S1x1x1_S_).sem
  | 3 => ((cc0_scratch5.slice (Rect.unit (s := S2x2x3) ![0, 1, 0] S1x1x1.size inb_S2x2x3_S1x1x1_0_1_0)).squeeze S_ squeezes_S1x1x1_S_).sem
  | 4 => ((cc0_scratch5.slice (Rect.unit (s := S2x2x3) ![0, 1, 1] S1x1x1.size inb_S2x2x3_S1x1x1_0_1_1)).squeeze S_ squeezes_S1x1x1_S_).sem
  | 5 => ((cc0_scratch5.slice (Rect.unit (s := S2x2x3) ![0, 1, 2] S1x1x1.size inb_S2x2x3_S1x1x1_0_1_2)).squeeze S_ squeezes_S1x1x1_S_).sem
  | 6 => ((cc0_scratch5.slice (Rect.unit (s := S2x2x3) ![1, 0, 0] S1x1x1.size inb_S2x2x3_S1x1x1_1_0_0)).squeeze S_ squeezes_S1x1x1_S_).sem
  | 7 => ((cc0_scratch5.slice (Rect.unit (s := S2x2x3) ![1, 0, 1] S1x1x1.size inb_S2x2x3_S1x1x1_1_0_1)).squeeze S_ squeezes_S1x1x1_S_).sem
  | 8 => ((cc0_scratch5.slice (Rect.unit (s := S2x2x3) ![1, 0, 2] S1x1x1.size inb_S2x2x3_S1x1x1_1_0_2)).squeeze S_ squeezes_S1x1x1_S_).sem
  | 9 => ((cc0_scratch5.slice (Rect.unit (s := S2x2x3) ![1, 1, 0] S1x1x1.size inb_S2x2x3_S1x1x1_1_1_0)).squeeze S_ squeezes_S1x1x1_S_).sem
  | 10 => ((cc0_scratch5.slice (Rect.unit (s := S2x2x3) ![1, 1, 1] S1x1x1.size inb_S2x2x3_S1x1x1_1_1_1)).squeeze S_ squeezes_S1x1x1_S_).sem
  | 11 => ((cc0_scratch5.slice (Rect.unit (s := S2x2x3) ![1, 1, 2] S1x1x1.size inb_S2x2x3_S1x1x1_1_1_2)).squeeze S_ squeezes_S1x1x1_S_).sem

/-- The runtime's barrier semaphore and the exit semaphore. -/
abbrev barS : Sem sig := (SemArray.scalar (sig.barrier 0 rfl) : Sems sig S_).sem
abbrev exitS : Sem sig := cc0_scratch8.sem

abbrev barCell (c : Dev nD) : GSem nD τ sig := ((c : Thread nD τ), .reg barS)
abbrev exitCell (c : Dev nD) : GSem nD τ sig := ((c : Thread nD τ), .reg exitS)
abbrev sendCell (n : Fin 12) (c : Dev nD) : GSem nD τ sig := ((c : Thread nD τ), .dma (sendS n))
abbrev recvCell (n : Fin 12) (c : Dev nD) : GSem nD τ sig := ((c : Thread nD τ), .dma (recvS n))

theorem sendS_val (n : Fin 12) : (sendS n).val = n.val + 2 := by revert n; decide +kernel
theorem recvS_val (n : Fin 12) : (recvS n).val = n.val + 14 := by revert n; decide +kernel

/-- The credit of one transfer. -/
abbrev N : ℕ := (slotM 0).view.dmaCredit
theorem N_pos : 0 < N := View.dmaCredit_pos _ (by decide)
theorem amount_slot (n : Fin 12) (q : DmaSem sig) : (slotM n).view.amount (.dma q) = N := by fin_cases n <;> rfl
theorem credit_slot (n : Fin 12) : (slotM n).view.dmaCredit = N := by fin_cases n <;> rfl

/-! ## What is held of the accumulator and of the scratch -/

/-- The share of the accumulator lent to the `n`-th send. -/
def sh : Fin 12 → PosShare TreeShare := fun n =>
  if n.val % 3 = 0 then fullShare.left else if n.val % 3 = 1 then fullShare.right.left else fullShare.right.right

def accAt (ch : Fin 2) (c : Dev nD) (q : PosShare TreeShare) (X : Vec F S2x1024 .f32) : sProp 𝕄 :=
  (accM ch).view.loc (c : Thread nD τ) ↦[(accM ch).view.set]{q} (accM ch).view.rep X
def slotAt (n : Fin 12) (c : Dev nD) (X : Vec F S2x1024 .f32) : sProp 𝕄 :=
  (slotM n).view.loc (c : Thread nD τ) ↦[(slotM n).view.set]{fullShare} (slotM n).view.rep X
def slotAny (n : Fin 12) (c : Dev nD) : sProp 𝕄 :=
  iprop(∃ f : Buf (Elt F) ((slotM n).view.loc (c : Thread nD τ)), (slotM n).view.loc (c : Thread nD τ) ↦[(slotM n).view.set]{fullShare} f)

theorem piece_storable {l : Loc nD τ sig} (S : Finset (Idx l)) (q : PosShare TreeShare) (f : Buf (Elt F) l) : BI.Storable (upEmb : UEmb _ 𝕄) iprop(l ↦[S]{q} f) := inferInstance
theorem piece_any_storable {l : Loc nD τ sig} (S : Finset (Idx l)) : BI.Storable (upEmb : UEmb _ 𝕄) iprop(∃ f : Buf (Elt F) l, l ↦[S]{fullShare} f) := inferInstance
instance accAt_storable (ch : Fin 2) (c : Dev nD) (q) (X : Vec F S2x1024 .f32) : BI.Storable (upEmb : UEmb _ 𝕄) (accAt ch c q X) := piece_storable _ _ _
instance slotAt_storable (n : Fin 12) (c : Dev nD) (X : Vec F S2x1024 .f32) : BI.Storable (upEmb : UEmb _ 𝕄) (slotAt n c X) := piece_storable _ _ _
instance slotAny_storable (n : Fin 12) (c : Dev nD) : BI.Storable (upEmb : UEmb _ 𝕄) (slotAny (F := F) n c) := piece_any_storable _

/-- The accumulator half, whole, is the three shares lent to the three sends of a phase. -/
theorem accAt_split (ch : Fin 2) (c : Dev nD) (X : Vec F S2x1024 .f32) (a b d : Fin 12) (ha : a.val % 3 = 0) (hb : b.val % 3 = 1) (hd : d.val % 3 = 2) :
    accAt ch c fullShare X ⊣⊢ iprop(accAt ch c (sh a) X ∗ accAt ch c (sh b) X ∗ accAt ch c (sh d) X) := by
  have h1 : sh a = fullShare.left := by unfold sh; rw [if_pos ha]
  have h2 : sh b = fullShare.right.left := by unfold sh; rw [if_neg (by omega), if_pos hb]
  have h3 : sh d = fullShare.right.right := by unfold sh; rw [if_neg (by omega), if_neg (by omega)]
  rw [h1, h2, h3]
  unfold accAt
  exact (pointsTo_share (PosShare.mem_left_op_right _)).trans (sep_congr .rfl (pointsTo_share (PosShare.mem_left_op_right _)))

/-! ## The schedule -/

variable (A : Fin 2 → Fin 2 → Dev nD → Vec F S2x1024 .f32)

/-- The right to write the slot that the `n`-th send of device `c` goes to. -/
def land (n : Fin 12) (c : Dev nD) : sProp 𝕄 := slotAny (mir n) (pd n c)
/-- What comes with the unit that partner `rv j` of device `c` adds to its barrier semaphore. -/
def barPay (c : Dev nD) (j : Fin 6) : sProp 𝕄 := iprop(land (F := F) (nOf (rv j) 0) c ∗ land (F := F) (nOf (rv j) 1) c)
def recvPay (n : Fin 12) (c : Dev nD) : sProp 𝕄 := slotAt n c (A (phN n) (chN n) (pd n c))
def sendPay (n : Fin 12) (c : Dev nD) : sProp 𝕄 := accAt (chN n) c (sh n) (A (phN n) (chN n) c)

def semDuties : SemLoc sig → Finset (Fin 6)
  | .reg s => if s = barS ∨ s = exitS then Finset.univ else ∅
  | .dma q => if 2 ≤ q.val ∧ q.val < 26 then {0} else ∅
def semPay (c : Dev nD) (d : Fin 6) : SemLoc sig → sProp 𝕄
  | .reg s => if s = barS then barPay (F := F) c d else iprop(emp)
  | .dma q => if h : 14 ≤ q.val ∧ q.val < 26 then recvPay A ⟨q.val - 14, by omega⟩ c
      else if h' : 2 ≤ q.val ∧ q.val < 14 then sendPay A ⟨q.val - 2, by omega⟩ c else iprop(emp)

instance land_storable (n : Fin 12) (c : Dev nD) : BI.Storable (upEmb : UEmb _ 𝕄) (land (F := F) n c) := by unfold land; infer_instance
instance barPay_storable (c : Dev nD) (j : Fin 6) : BI.Storable (upEmb : UEmb _ 𝕄) (barPay (F := F) c j) := by unfold barPay; infer_instance
instance recvPay_storable (n : Fin 12) (c : Dev nD) : BI.Storable (upEmb : UEmb _ 𝕄) (recvPay A n c) := by unfold recvPay; infer_instance
instance sendPay_storable (n : Fin 12) (c : Dev nD) : BI.Storable (upEmb : UEmb _ 𝕄) (sendPay A n c) := by unfold sendPay; infer_instance
instance semPay_storable (c : Dev nD) (d : Fin 6) (s : SemLoc sig) : BI.Storable (upEmb : UEmb _ 𝕄) (semPay A c d s) := by
  cases s <;> (unfold semPay; dsimp only; (repeat' split) <;> infer_instance)

def semAmount : SemLoc sig → ℕ
  | .reg _ => 1
  | .dma _ => N
theorem semAmount_pos (s : SemLoc sig) : 0 < semAmount s := by cases s; exacts [Nat.one_pos, N_pos]

/-- One round per semaphore. -/
def sched : Rounds.Schedule (GSem nD τ sig) (Fin 6) 𝕄 where
  duties g r := if r = 0 ∧ g.1.2 = .tc then semDuties g.2 else ∅
  unitless _ := False
  amount g _ _ := semAmount g.2
  payload g _ d := semPay A g.1.1 d g.2
  amount_pos g _ _ _ := semAmount_pos g.2

instance sched_payload_storable (g : GSem nD τ sig) (r : ℕ) (d : Fin 6) :
    BI.Storable (upEmb : UEmb _ 𝕄) ((sched A).payload g r d) := by
  show BI.Storable upEmb (semPay A g.1.1 d g.2); infer_instance

section Tables
variable (c : Dev nD) (n : Fin 12)

theorem duties_cell (s : SemLoc sig) : (sched A).duties ((c : Thread nD τ), s) 0 = semDuties s := by dsimp only [sched]; exact if_pos ⟨rfl, rfl⟩
theorem duties_later (g : GSem nD τ sig) : ∀ r, 1 ≤ r → (sched A).duties g r = ∅ := fun r hr => by dsimp only [sched]; exact if_neg fun h => by omega
theorem semDuties_bar : semDuties (.reg barS) = Finset.univ := by dsimp only [semDuties]; exact if_pos (.inl rfl)
theorem semDuties_exit : semDuties (.reg exitS) = Finset.univ := by dsimp only [semDuties]; exact if_pos (.inr rfl)
theorem semDuties_send : semDuties (.dma (sendS n)) = {0} := by
  have h := sendS_val n
  unfold semDuties; exact if_pos (by omega)
theorem semDuties_recv : semDuties (.dma (recvS n)) = {0} := by
  have h := recvS_val n
  unfold semDuties; exact if_pos (by omega)
theorem exit_ne_bar : exitS ≠ barS := by decide
theorem semPay_bar (d : Fin 6) : semPay A c d (.reg barS) = barPay c d := by dsimp only [semPay]; exact if_pos rfl
theorem semPay_exit (d : Fin 6) : semPay A c d (.reg exitS) = iprop(emp) := by dsimp only [semPay]; exact if_neg exit_ne_bar
theorem semPay_recv (d : Fin 6) : semPay A c d (.dma (recvS n)) = recvPay A n c := by
  have h := recvS_val n
  unfold semPay
  refine (dif_pos (by omega)).trans ?_
  congr 1; exact Fin.ext (by show (recvS n).val - 14 = n.val; omega)
theorem semPay_send (d : Fin 6) : semPay A c d (.dma (sendS n)) = sendPay A n c := by
  have h := sendS_val n
  unfold semPay
  refine (dif_neg (by omega)).trans ((dif_pos (by omega)).trans ?_)
  congr 1; exact Fin.ext (by show (sendS n).val - 2 = n.val; omega)

theorem expect_cell (s : SemLoc sig) : (sched A).expect ((c : Thread nD τ), s) 0 = (semDuties s).card * semAmount s := by
  unfold Schedule.expect Schedule.amountOf
  rw [duties_cell]
  exact (Finset.sum_const _).trans (smul_eq_mul _ _)
theorem expect_bar : (sched A).expect (barCell c) 0 = 6 := by rw [expect_cell, semDuties_bar]; rfl
theorem expect_exit : (sched A).expect (exitCell c) 0 = 6 := by rw [expect_cell, semDuties_exit]; rfl
theorem expect_send : (sched A).expect (sendCell n c) 0 = N := by rw [expect_cell, semDuties_send]; exact Nat.one_mul _
theorem expect_recv : (sched A).expect (recvCell n c) 0 = N := by rw [expect_cell, semDuties_recv]; exact Nat.one_mul _

theorem rest_send : bigSep ((sched A).duties (sendCell n c) 0 \ ∅) (fun d => (sched A).payload (sendCell n c) 0 d) = sendPay A n c := by
  rw [Finset.sdiff_empty, duties_cell, semDuties_send, bigSep_singleton]; exact semPay_send A c n 0
theorem rest_recv : bigSep ((sched A).duties (recvCell n c) 0 \ ∅) (fun d => (sched A).payload (recvCell n c) 0 d) = recvPay A n c := by
  rw [Finset.sdiff_empty, duties_cell, semDuties_recv, bigSep_singleton]; exact semPay_recv A c n 0
theorem rest_bar : bigSep ((sched A).duties (barCell c) 0 \ ∅) (fun d => (sched A).payload (barCell c) 0 d)
    = iprop(barPay (F := F) c 0 ∗ barPay c 1 ∗ barPay c 2 ∗ barPay c 3 ∗ barPay c 4 ∗ barPay c 5) := by
  rw [Finset.sdiff_empty, duties_cell, semDuties_bar, bigSep_univ_eq_bigSepL [0, 1, 2, 3, 4, 5] (by decide) (by decide)]
  simp only [bigSepL_cons_cons, bigSepL_singleton]
  simp only [show ∀ d, (sched A).payload (barCell c) 0 d = barPay c d from fun d => semPay_bar A c d]
  rfl
end Tables

/-! ## What a device owes; the levels -/

/-- The payments of a device in program order: six barrier units, twelve transfers, six exit units. -/
def payCell (i : Fin 24) (c : Dev nD) : GSem nD τ sig :=
  if h : i.val < 6 then barCell (part ⟨i.val, h⟩ c)
  else if h' : i.val < 18 then recvCell (mir ⟨i.val - 6, by omega⟩) (pd ⟨i.val - 6, by omega⟩ c)
  else exitCell (part ⟨i.val - 18, by omega⟩ c)
def payAmount (i : Fin 24) : ℕ := if 6 ≤ i.val ∧ i.val < 18 then N else 1
/-- What is owed with `k` payments to go. -/
def owed : (k : ℕ) → Dev nD → CellTallies nD τ sig Unit
  | 0, _ => 0
  | k + 1, c => owed k c + tallyAt (payCell (Fin.ofNat 24 (23 - k)) c) () (payAmount (Fin.ofNat 24 (23 - k)))

def L (g : GSem nD τ sig) : Finset Unit := if g.1.2 = .tc then {()} else ∅
def semLev : SemLoc sig → ℕ
  | .reg s => if s = barS then 1 else if s = exitS then 6 else 0
  | .dma q => if 14 ≤ q.val ∧ q.val < 26 then 2 + (q.val - 14) / 3 else 0
def lv (g : GSem nD τ sig) (_ : Unit) : ℕ := semLev g.2

/-- The level of the `i`-th payment's cell. -/
def payLev (i : Fin 24) : ℕ := if i.val < 6 then 1 else if i.val < 18 then 2 + (i.val - 6) / 3 else 6

theorem L_of_ne (g : GSem nD τ sig) (h : g.1.2 ≠ .tc) : L g = ∅ := if_neg h
theorem L_tc (c : Dev nD) (sm : SemLoc sig) : L ((c : Thread nD τ), sm) = {()} := if_pos rfl

theorem semLev_bar : semLev (.reg barS) = 1 := by dsimp only [semLev]; exact if_pos rfl
theorem semLev_exit : semLev (.reg exitS) = 6 := by dsimp only [semLev]; rw [if_neg exit_ne_bar, if_pos rfl]
theorem semLev_recv (n : Fin 12) : semLev (.dma (recvS n)) = 2 + n.val / 3 := by
  have h := recvS_val n
  dsimp only [semLev]; rw [if_pos (by omega)]; omega
theorem semLev_low (q : DmaSem sig) (h : q.val < 14 ∨ 26 ≤ q.val) : semLev (.dma q) = 0 := by
  dsimp only [semLev]; rw [if_neg (by omega)]

theorem payCell_tc (i : Fin 24) (c : Dev nD) : (payCell i c).1.2 = .tc := by
  unfold payCell; split; · rfl
  split <;> rfl
theorem lv_payCell (i : Fin 24) (c : Dev nD) : lv (payCell i c) () = payLev i := by
  unfold payCell payLev
  split
  · exact semLev_bar
  · split
    · rename_i h h'
      refine (semLev_recv _).trans ?_
      show 2 + (3 * ((i.val - 6) / 3) + (2 - (i.val - 6) % 3)) / 3 = _
      omega
    · exact semLev_exit

theorem owed_pos {k : ℕ} {c : Dev nD} {g : GSem nD τ sig} {u : Unit} (hk : k ≤ 24) (h : 0 < owed k c g u) :
    ∃ i : Fin 24, 24 - k ≤ i.val ∧ g = payCell i c := by
  induction k with
  | zero => exact absurd h (Nat.lt_irrefl 0)
  | succ k ih =>
    unfold owed at h
    rw [Pi.add_apply, Finsupp.add_apply, tallyAt_apply] at h
    by_cases hg : g = payCell (Fin.ofNat 24 (23 - k)) c ∧ u = ()
    · refine ⟨Fin.ofNat 24 (23 - k), ?_, hg.1⟩
      show 24 - (k + 1) ≤ (23 - k) % 24
      omega
    · rw [if_neg hg] at h
      obtain ⟨i, hi, he⟩ := ih (by omega) h
      exact ⟨i, by omega, he⟩

/-- A wait is allowed below all that is still owed. -/
theorem mayWait (c : Dev nD) (s : SemLoc sig) (k : ℕ) (hk : k ≤ 24) (h : ∀ i : Fin 24, 24 - k ≤ i.val → semLev s < payLev i) :
    (levAts L lv : sProp 𝕄) ⊢ MayWait (c : Thread nD τ) s () (owed k c) :=
  MayOwe.of_cut (L := L) (lev := lv) (semLev s) (fun p hp => by rw [Finset.mem_singleton.mp hp, L_tc]; exact Finset.mem_singleton_self _)
    (fun g u hg => by
      obtain ⟨i, -, rfl⟩ := owed_pos hk hg
      unfold L; rw [if_pos (payCell_tc i c)]; exact Finset.mem_singleton_self _)
    (fun p hp => by rw [Finset.mem_singleton.mp hp]; exact le_rfl)
    (fun g u hg => by
      obtain ⟨i, hi, rfl⟩ := owed_pos hk hg
      exact (h i hi).trans_eq (lv_payCell i c).symm)

end Cert.Norm

end
-- ==== Proof.Norm.Steps.lean ====
/-
# The steps across devices

One lemma per kind of statement that touches another device's memory or semaphore, each over the rest of the program:
a barrier unit, the barrier wait, a send, the two waits that close a send and a receive, an exit unit, the exit wait.
Every wait also closes its semaphore, which has one round only, so its counter comes back at zero.
-/
module

public import proofs.«01_k».proof.Proof.Norm.Proto
public import Idealize.ShloMosaic.Lib.VecWindow

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, indexed; the facts every device knows -/

/-- The protocol's semaphores: the barrier, the exit, then sends and receives at their own numbers. -/
def csem : Fin 26 → SemLoc sig := fun i =>
  if i.val = 0 then .reg barS else if i.val = 1 then .reg exitS else .dma ⟨i.val, by have := i.isLt; show i.val < 42; omega⟩
def kcell (p : Dev nD × Fin 26) : GSem nD τ sig := ((p.1 : Thread nD τ), csem p.2)

def ixS (n : Fin 12) : Fin 26 := ⟨n.val + 2, by omega⟩
def ixR (n : Fin 12) : Fin 26 := ⟨n.val + 14, by omega⟩

theorem kcell_bar (c : Dev nD) : kcell (c, 0) = barCell c := rfl
theorem kcell_exit (c : Dev nD) : kcell (c, 1) = exitCell c := rfl
theorem kcell_send (n : Fin 12) (c : Dev nD) : kcell (c, ixS n) = sendCell n c := by
  have h := sendS_val n
  unfold kcell csem
  have e : (ixS n).val = n.val + 2 := rfl
  rw [if_neg (by show ¬ (ixS n).val = 0; omega), if_neg (by show ¬ (ixS n).val = 1; omega)]
  exact congrArg (fun q : DmaSem sig => (((c : Thread nD τ), SemLoc.dma q) : GSem nD τ sig)) (Fin.ext h.symm)
theorem kcell_recv (n : Fin 12) (c : Dev nD) : kcell (c, ixR n) = recvCell n c := by
  have h := recvS_val n
  unfold kcell csem
  have e : (ixR n).val = n.val + 14 := rfl
  rw [if_neg (by show ¬ (ixR n).val = 0; omega), if_neg (by show ¬ (ixR n).val = 1; omega)]
  exact congrArg (fun q : DmaSem sig => (((c : Thread nD τ), SemLoc.dma q) : GSem nD τ sig)) (Fin.ext h.symm)

variable (A : Fin 2 → Fin 2 → Dev nD → Vec F S2x1024 .f32)
variable (K : Dev nD × Fin 26 → ℕ)

/-- The invariants of all cells, under the names `K`, and that their first round is reached. -/
def records : sProp 𝕄 :=
  bigSep Finset.univ fun p : Dev nD × Fin 26 => iprop(cellInv ER (sched A) (K p) (kcell p) ∗ reached ER (kcell p) 0)

instance records_persistent : BI.Persistent (records A K) := by unfold records; infer_instance

theorem rec_at (p : Dev nD × Fin 26) (g : GSem nD τ sig) (hg : kcell p = g) :
    records A K ⊢ iprop(cellInv ER (sched A) (K p) g ∗ reached ER g 0) := by
  subst hg; exact bigSep_elim (Finset.mem_univ p)

/-! ## Payments in program order -/

theorem owed_bar (c : Dev nD) (j : Fin 6) (k : ℕ) (hk : k + j.val = 23) :
    owed (k + 1) c = owed k c + tallyAt (barCell (part j c)) () 1 := by
  have e : Fin.ofNat 24 (23 - k) = (⟨j.val, by omega⟩ : Fin 24) := Fin.ext (by show (23 - k) % 24 = j.val; omega)
  have h1 : payCell (Fin.ofNat 24 (23 - k)) c = barCell (part j c) := by rw [e]; exact dif_pos j.isLt
  have h2 : payAmount (Fin.ofNat 24 (23 - k)) = 1 := by rw [e]; exact if_neg (fun h => by have := j.isLt; have := h.1; dsimp only at this; omega)
  show owed k c + _ = _
  rw [h1, h2]
theorem owed_send (c : Dev nD) (n : Fin 12) (k : ℕ) (hk : k + n.val = 17) :
    owed (k + 1) c = owed k c + tallyAt (recvCell (mir n) (pd n c)) () N := by
  have e : Fin.ofNat 24 (23 - k) = (⟨n.val + 6, by omega⟩ : Fin 24) := Fin.ext (by show (23 - k) % 24 = n.val + 6; omega)
  have h1 : payCell (Fin.ofNat 24 (23 - k)) c = recvCell (mir n) (pd n c) := by
    rw [e]; unfold payCell
    rw [dif_neg (show ¬ n.val + 6 < 6 by omega), dif_pos (show n.val + 6 < 18 by omega)]
    rfl
  have h2 : payAmount (Fin.ofNat 24 (23 - k)) = N := by rw [e]; exact if_pos ⟨Nat.le_add_left _ _, by show n.val + 6 < 18; omega⟩
  show owed k c + _ = _
  rw [h1, h2]
theorem owed_exit (c : Dev nD) (j : Fin 6) (k : ℕ) (hk : k + j.val = 5) :
    owed (k + 1) c = owed k c + tallyAt (exitCell (part j c)) () 1 := by
  have e : Fin.ofNat 24 (23 - k) = (⟨j.val + 18, by omega⟩ : Fin 24) := Fin.ext (by show (23 - k) % 24 = j.val + 18; omega)
  have h1 : payCell (Fin.ofNat 24 (23 - k)) c = exitCell (part j c) := by
    rw [e]; unfold payCell
    rw [dif_neg (show ¬ j.val + 18 < 6 by omega), dif_neg (show ¬ j.val + 18 < 18 by omega)]
    rfl
  have h2 : payAmount (Fin.ofNat 24 (23 - k)) = 1 := by rw [e]; exact if_neg (fun h => by have := h.2; dsimp only at this; omega)
  show owed k c + _ = _
  rw [h1, h2]

/-- What a device owes with `k` payments to go, whatever waits it has recorded. -/
def ow (k : ℕ) (c : Dev nD) : sProp 𝕄 := iprop(∃ W : Waits sig Unit, owes (c : Thread nD τ) (owed k c) W)

section Steps
variable {α : Type} {Φ : α → sProp (MT nD τ sig Unit (Elt F) ℕ UU ℕ)}
variable {k : PUnit → Prog (TpuEff nD τ sig (Elt F) Λ₀ .tc) α}

/-- A barrier unit to partner `j`, with the right to write this device's slots for that partner's sends. -/
theorem step_bar (c dv : Dev nD) (j : Fin 6) (hdv : dv = part j c) (o : ℕ) (ho : o + j.val = 23) (a : ℕ) (ha : a = 1) :
    iprop(records A K ∗ ow (o + 1) c ∗ dutyTok ER (barCell (part j c)) 0 j ∗ slotAny (F := F) (nOf j 0) c ∗ slotAny (F := F) (nOf j 1) c)
      ⊢ iprop((ow o c -∗ wp frame (wpE (defs₀ (F := F)) 𝒱₀ (c : Thread nD τ) none) Set.univ (k ⟨⟩) Φ)
        -∗ wp frame (wpE (defs₀ (F := F)) 𝒱₀ (c : Thread nD τ) none) Set.univ (.op (.semSignal (dv, .tc) barS a) k) Φ) := by
  subst hdv ha
  unfold ow
  iintro ⟨#HR, ⟨%W, HO⟩, Ht, H0, H1⟩ Hk
  ihave Hr := (rec_at A K (part j c, 0) (barCell (part j c)) (kcell_bar _)) $$ HR
  icases Hr with ⟨#HI, #Hre⟩
  iapply (Rounds.wp_signal 𝒱₀ ER (sched A) (c : Thread nD τ) none (dst := (part j c : Thread nD τ)) (κ := K (part j c, 0))
      (d := j) (by rw [duties_cell, semDuties_bar]; exact Finset.mem_univ _) rfl () (owed o c) (owed_bar c j o ho)) $$ [HO Ht H0 H1]
  · isplitr; · iexact HI
    isplitl [HO]; · iexact HO
    isplitl [Ht]; · iexact Ht
    isplitl [H0 H1]
    · rw [show (sched A).payload (barCell (part j c)) 0 j = barPay (F := F) (part j c) j from semPay_bar A _ j]
      unfold barPay land
      rw [mir_nOf, mir_nOf]
      unfold pd; rw [jN_nOf, jN_nOf, part_rv]
      isplitl [H0] <;> iassumption
    iexact Hre
  iintro HO
  iapply Hk
  iexists W; iexact HO

/-- An exit unit to partner `j`. -/
theorem step_exit (c dv : Dev nD) (j : Fin 6) (hdv : dv = part j c) (o : ℕ) (ho : o + j.val = 5) (a : ℕ) (ha : a = 1) :
    iprop(records A K ∗ ow (o + 1) c ∗ dutyTok ER (exitCell (part j c)) 0 j)
      ⊢ iprop((ow o c -∗ wp frame (wpE (defs₀ (F := F)) 𝒱₀ (c : Thread nD τ) none) Set.univ (k ⟨⟩) Φ)
        -∗ wp frame (wpE (defs₀ (F := F)) 𝒱₀ (c : Thread nD τ) none) Set.univ (.op (.semSignal (dv, .tc) exitS a) k) Φ) := by
  subst hdv ha
  unfold ow
  iintro ⟨#HR, ⟨%W, HO⟩, Ht⟩ Hk
  ihave Hr := (rec_at A K (part j c, 1) (exitCell (part j c)) (kcell_exit _)) $$ HR
  icases Hr with ⟨#HI, #Hre⟩
  iapply (Rounds.wp_signal 𝒱₀ ER (sched A) (c : Thread nD τ) none (dst := (part j c : Thread nD τ)) (κ := K (part j c, 1))
      (d := j) (by rw [duties_cell, semDuties_exit]; exact Finset.mem_univ _) rfl () (owed o c) (owed_exit c j o ho)) $$ [HO Ht]
  · isplitr; · iexact HI
    isplitl [HO]; · iexact HO
    isplitl [Ht]; · iexact Ht
    isplitr
    · rw [show (sched A).payload (exitCell (part j c)) 0 j = iprop(emp) from semPay_exit A (part j c) j]; iempintro
    iexact Hre
  iintro HO
  iapply Hk
  iexists W; iexact HO

/-- The `n`-th send: a share of the sums goes to the partner's slot. -/
theorem step_send (c dv : Dev nD) (n : Fin 12) (hdv : dv = pd n c) (o : ℕ) (ho : o + n.val = 17)
    {hsc : (slotM (mir n) : Memref sig (Dev.tc dv : Thread nD τ).2.kind .vmem S2x1024 .f32).view.ref.isScScratch = false}
    {hsrc : (accM (chN n)).view.WordExact} {hdst : (slotM (mir n)).view.WordExact}
    {hsem : DmaTarget.Typed .vmem (.dma (recvS (mir n))) (.remote (Dev.tc dv : Thread nD τ) (slotM (mir n)) (.dma (sendS n)) hsc)} :
    iprop(records A K ∗ ow (o + 1) c ∗ accAt (chN n) c (sh n) (A (phN n) (chN n) c) ∗ land (F := F) n c
        ∗ dutyTok ER (sendCell n c) 0 0 ∗ dutyTok ER (recvCell (mir n) (pd n c)) 0 0)
      ⊢ iprop(((cred (tallyAt (sendCell n c) () N) ∗ ow o c) -∗ wp frame (wpE (defs₀ (F := F)) 𝒱₀ (c : Thread nD τ) none) Set.univ (k ⟨⟩) Φ)
        -∗ wp frame (wpE (defs₀ (F := F)) 𝒱₀ (c : Thread nD τ) none) Set.univ
          (.op (.enqueueDma (accM (chN n)) (.remote (Dev.tc dv : Thread nD τ) (slotM (mir n)) (.dma (sendS n)) hsc) (.dma (recvS (mir n))) hsrc hdst hsem) k) Φ) := by
  subst hdv
  unfold ow land slotAny
  iintro ⟨#HR, ⟨%W, HO⟩, Ha, ⟨%fd, Hd⟩, Hts, Htr⟩ Hk
  ihave Hr := (rec_at A K (c, ixS n) (sendCell n c) (kcell_send n c)) $$ HR
  icases Hr with ⟨#HI1, #Hre1⟩
  ihave Hr := (rec_at A K (pd n c, ixR (mir n)) (recvCell (mir n) (pd n c)) (kcell_recv _ _)) $$ HR
  icases Hr with ⟨#HI2, #Hre2⟩
  unfold accAt
  iapply (Rounds.wp_send_pointsTo 𝒱₀ ER (sched A) (c : Thread nD τ) none (κ₁ := K (c, ixS n)) (κ₂ := K (pd n c, ixR (mir n)))
    (r₁ := 0) (r₂ := 0) (d₁ := 0) (d₂ := 0) (fd := fd)
    (by rw [duties_cell, semDuties_send]; exact Finset.mem_singleton_self _) (by rw [duties_cell, semDuties_recv]; exact Finset.mem_singleton_self _)
    () () N (amount_slot _ _) rfl rfl (owed o c) (owed_send c n o ho) (W := W)
    (by rw [show (sched A).payload (sendCell n c) 0 0 = sendPay A n c from semPay_send A c n 0]; exact BI.Entails.refl _)
    (by
      rw [show (sched A).payload (recvCell (mir n) (pd n c)) 0 0 = recvPay A (mir n) (pd n c) from semPay_recv A (pd n c) (mir n) 0]
      unfold recvPay slotAt
      rw [pd_mir, phN_mir, chN_mir]
      refine pointsTo_rep_of_read (pd n c : Thread nD τ) (slotM (mir n)) _ fullShare _ ?_
      rw [View.read_write_univ, View.read_rep])) $$ [HO Ha Hd Hts Htr]
  · isplitr; · iexact HI1
    isplitr; · iexact HI2
    isplitl [Ha]; · iexact Ha
    isplitl [Hd]; · iexact Hd
    isplitl [HO]; · iexact HO
    isplitl [Hts]; · iexact Hts
    isplitr; · iexact Hre1
    isplitl [Htr]; · iexact Htr
    iexact Hre2
  iintro ⟨Hc, HO⟩
  iapply Hk
  isplitl [Hc]; · iexact Hc
  iexists W; iexact HO

/-- The wait for a cell's whole round, the cell then closed. -/
theorem step_wait (c : Dev nD) (i : Fin 26) (s : SemLoc sig) (hs : kcell (c, i) = ((c : Thread nD τ), s))
    {w : TpuEff nD τ sig (Elt F) Λ₀ .tc PUnit} {a : ℕ}
    (hw : ∀ X : PUnit → sProp 𝕄, wpE (defs₀ (F := F)) 𝒱₀ (c : Thread nD τ) none Set.univ w X = waitSpec (c : Thread nD τ) Set.univ s a X)
    (b : ℕ) (hab : a = b) (he : (sched A).expect ((c : Thread nD τ), s) 0 = b) (o : ℕ) (ho : o ≤ 24)
    (hl : ∀ i : Fin 24, 24 - o ≤ i.val → semLev s < payLev i) :
    iprop(records A K ∗ levAts L lv ∗ ow o c ∗ cred (tallyAt ((c : Thread nD τ), s) () b) ∗ atPos ER ((c : Thread nD τ), s) 0 ∅ 0)
      ⊢ iprop(((ow o c ∗ semVal ((c : Thread nD τ), s) 0
              ∗ bigSep ((sched A).duties ((c : Thread nD τ), s) 0 \ ∅) (fun d => (sched A).payload ((c : Thread nD τ), s) 0 d))
            -∗ wp frame (wpE (defs₀ (F := F)) 𝒱₀ (c : Thread nD τ) none) Set.univ (k ⟨⟩) Φ)
          -∗ wp frame (wpE (defs₀ (F := F)) 𝒱₀ (c : Thread nD τ) none) Set.univ (.op w k) Φ) := by
  subst hab
  unfold ow
  iintro ⟨#HR, #Hlev, ⟨%W, HO⟩, Hc, Hat⟩ Hk
  ihave Hr := (rec_at A K (c, i) _ hs) $$ HR
  icases Hr with ⟨#HI, -⟩
  iapply (Rounds.wp_wait_rest_token 𝒱₀ ER (sched A) (c : Thread nD τ) none (κ := K (c, i)) hw (Set.mem_univ _) ()
      (O := owed o c) (W := W) (R := 0) (m := 0) (T := ∅) (by rw [he, Nat.zero_add])) $$ [Hc HO Hat]
  · isplitr; · iexact HI
    isplitl [Hc]; · iexact Hc
    isplitl [HO]; · iexact HO
    isplitr; · iapply (mayWait c s o ho hl); iexact Hlev
    iexact Hat
  iintro ⟨HO, Hat, -, Hpay⟩
  imod (Rounds.cell_close ER (sched A) (Set.mem_univ (K (c, i))) (fun h => h) (R := 0 + 1) (duties_later A _)) $$ [Hat] with Hz
  · isplitr; · iexact HI
    iexact Hat
  iapply Hk
  isplitl [HO]; · iexists _; iexact HO
  isplitl [Hz] <;> iassumption

/-- The barrier wait: the right to write the slot each of the twelve sends goes to. -/
theorem step_wait_bar (c : Dev nD) (a : ℕ) (ha : a = 6) :
    iprop(records A K ∗ levAts L lv ∗ ow 18 c ∗ cred (tallyAt (barCell c) () 6) ∗ atPos ER (barCell c) 0 ∅ 0)
      ⊢ iprop(((ow 18 c ∗ semVal (barCell c) 0
              ∗ land (F := F) 0 c ∗ land (F := F) 1 c ∗ land (F := F) 2 c ∗ land (F := F) 3 c ∗ land (F := F) 4 c ∗ land (F := F) 5 c
              ∗ land (F := F) 6 c ∗ land (F := F) 7 c ∗ land (F := F) 8 c ∗ land (F := F) 9 c ∗ land (F := F) 10 c ∗ land (F := F) 11 c)
            -∗ wp frame (wpE (defs₀ (F := F)) 𝒱₀ (c : Thread nD τ) none) Set.univ (k ⟨⟩) Φ)
          -∗ wp frame (wpE (defs₀ (F := F)) 𝒱₀ (c : Thread nD τ) none) Set.univ (.op (.semWait barS a) k) Φ) := by
  iintro H Hk
  iapply (step_wait A K c 0 (.reg barS) (kcell_bar c) (wpE_semWait_eq 𝒱₀ (c : Thread nD τ) none Set.univ) 6 ha (expect_bar A c) 18 (by decide)
    (by rw [semLev_bar]; decide)) $$ H
  iintro ⟨HO, Hz, Hp⟩
  ihave Hp := (Entails.of_eq (rest_bar A c)) $$ Hp
  unfold barPay
  icases Hp with ⟨⟨A0, A1⟩, ⟨B0, B1⟩, ⟨C0, C1⟩, ⟨D0, D1⟩, ⟨E0, E1⟩, ⟨F0, F1⟩⟩
  iapply Hk
  isplitl [HO]; · iexact HO
  isplitl [Hz]; · iexact Hz
  isplitl [C0]; · iexact C0
  isplitl [B0]; · iexact B0
  isplitl [A0]; · iexact A0
  isplitl [C1]; · iexact C1
  isplitl [B1]; · iexact B1
  isplitl [A1]; · iexact A1
  isplitl [F0]; · iexact F0
  isplitl [E0]; · iexact E0
  isplitl [D0]; · iexact D0
  isplitl [F1]; · iexact F1
  isplitl [E1]; · iexact E1
  iexact D1

/-- The exit wait. -/
theorem step_wait_exit (c : Dev nD) (a : ℕ) (ha : a = 6) :
    iprop(records A K ∗ levAts L lv ∗ ow 0 c ∗ cred (tallyAt (exitCell c) () 6) ∗ atPos ER (exitCell c) 0 ∅ 0)
      ⊢ iprop(((ow 0 c ∗ semVal (exitCell c) 0)
            -∗ wp frame (wpE (defs₀ (F := F)) 𝒱₀ (c : Thread nD τ) none) Set.univ (k ⟨⟩) Φ)
          -∗ wp frame (wpE (defs₀ (F := F)) 𝒱₀ (c : Thread nD τ) none) Set.univ (.op (.semWait exitS a) k) Φ) := by
  iintro H Hk
  iapply (step_wait A K c 1 (.reg exitS) (kcell_exit c) (wpE_semWait_eq 𝒱₀ (c : Thread nD τ) none Set.univ) 6 ha (expect_exit A c) 0 (by decide)
    (fun i hi => absurd i.isLt (by omega))) $$ H
  iintro ⟨HO, Hz, -⟩
  iapply Hk
  isplitl [HO] <;> iassumption

/-- The wait for the `n`-th send's departure: the share of the sums is back. -/
theorem step_wait_send (c : Dev nD) (n : Fin 12) (o : ℕ) (ho : o ≤ 18)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N) :
    iprop(records A K ∗ levAts L lv ∗ ow o c ∗ cred (tallyAt (sendCell n c) () N) ∗ atPos ER (sendCell n c) 0 ∅ 0)
      ⊢ iprop(((ow o c ∗ semVal (sendCell n c) 0 ∗ accAt (chN n) c (sh n) (A (phN n) (chN n) c))
            -∗ wp frame (wpE (defs₀ (F := F)) 𝒱₀ (c : Thread nD τ) none) Set.univ (k ⟨⟩) Φ)
          -∗ wp frame (wpE (defs₀ (F := F)) 𝒱₀ (c : Thread nD τ) none) Set.univ (.op (.waitDma2 (sendS n) src dst hsrc hdst) k) Φ) := by
  iintro H Hk
  iapply (step_wait A K c (ixS n) (.dma (sendS n)) (kcell_send n c) (wpE_waitDma2_eq 𝒱₀ (c : Thread nD τ) none Set.univ) N hN (expect_send A c n) o (by omega)
    (by
      intro i hi
      rw [semLev_low _ (.inl (by rw [sendS_val]; omega))]
      unfold payLev; split; · decide
      split <;> omega)) $$ H
  iintro ⟨HO, Hz, Hp⟩
  ihave Hp := (Entails.of_eq (rest_send A c n)) $$ Hp
  unfold sendPay
  iapply Hk
  isplitl [HO]; · iexact HO
  isplitl [Hz] <;> iassumption

/-- The wait for slot `n`: it holds the sums of the partner that wrote it. -/
theorem step_wait_recv (c : Dev nD) (n : Fin 12) (o : ℕ) (ho : o + 3 * (n.val / 3) + 3 ≤ 18)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N) :
    iprop(records A K ∗ levAts L lv ∗ ow o c ∗ cred (tallyAt (recvCell n c) () N) ∗ atPos ER (recvCell n c) 0 ∅ 0)
      ⊢ iprop(((ow o c ∗ semVal (recvCell n c) 0 ∗ slotAt n c (A (phN n) (chN n) (pd n c)))
            -∗ wp frame (wpE (defs₀ (F := F)) 𝒱₀ (c : Thread nD τ) none) Set.univ (k ⟨⟩) Φ)
          -∗ wp frame (wpE (defs₀ (F := F)) 𝒱₀ (c : Thread nD τ) none) Set.univ (.op (.waitDma2 (recvS n) src dst hsrc hdst) k) Φ) := by
  iintro H Hk
  iapply (step_wait A K c (ixR n) (.dma (recvS n)) (kcell_recv n c) (wpE_waitDma2_eq 𝒱₀ (c : Thread nD τ) none Set.univ) N hN (expect_recv A c n) o (by omega)
    (by
      intro i hi
      rw [semLev_recv]
      unfold payLev; split; · omega
      split <;> omega)) $$ H
  iintro ⟨HO, Hz, Hp⟩
  ihave Hp := (Entails.of_eq (rest_recv A c n)) $$ Hp
  unfold recvPay
  iapply Hk
  isplitl [HO]; · iexact HO
  isplitl [Hz] <;> iassumption

end Steps

end Cert.Norm

end
-- ==== Proof.Norm.Local.lean ====
/-
# The steps on one device

What a device does on its own: the copies of its input in and of its output out, block of 256 rows by block, the loads
and stores of its buffers. One lemma per kind of statement, over the rest of the program.
-/
module

public import proofs.«01_k».proof.Proof.Norm.Steps
public import Idealize.ShloMosaic.Lib.ValueLayout

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks of 256 rows -/

/-- Where the `b`-th block starts. -/
abbrev offB : Fin 8 → Fin 2 → ℕ := fun
  | 0 => ![0, 0]
  | 1 => ![256, 0]
  | 2 => ![512, 0]
  | 3 => ![768, 0]
  | 4 => ![1024, 0]
  | 5 => ![1280, 0]
  | 6 => ![1536, 0]
  | 7 => ![1792, 0]
theorem inbB (b : Fin 8) : ∀ a, offB b a + S256x1024.size a ≤ S2048x1024.size a := by revert b; decide
theorem offB_0 (b : Fin 8) : offB b 0 = 256 * b.val := by revert b; decide
theorem offB_1 (b : Fin 8) : offB b 1 = 0 := by revert b; decide
/-- The `b`-th block of the input, of its buffer, of the output's buffer and of the output. -/
abbrev xM (b : Fin 8) : Memref sig .tc .hbm S256x1024 .f32 :=
  (Memref.whole main_arg0).slice (Rect.unit (s := S2048x1024) (offB b) S256x1024.size (inbB b)) (fun _ => rfl)
abbrev xbM (b : Fin 8) : Memref sig .tc .vmem S256x1024 .f32 :=
  (Memref.whole cc0_scratch0).slice (Rect.unit (s := S2048x1024) (offB b) S256x1024.size (inbB b)) (fun _ => rfl)
abbrev obM (b : Fin 8) : Memref sig .tc .vmem S256x1024 .bf16 :=
  (Memref.whole cc0_scratch1).slice (Rect.unit (s := S2048x1024) (offB b) S256x1024.size (inbB b)) (fun _ => rfl)
abbrev oM (b : Fin 8) : Memref sig .tc .hbm S256x1024 .bf16 :=
  (Memref.whole main_v1).slice (Rect.unit (s := S2048x1024) (offB b) S256x1024.size (inbB b)) (fun _ => rfl)
/-- The semaphore of the copy of the `b`-th block in. -/
abbrev inS : Fin 8 → DmaSem sig := fun
  | 0 => ((cc0_scratch6.slice (Rect.unit (s := S8) ![0] S1.size inb_S8_S1_0)).squeeze S_ squeezes_S1_S_).sem
  | 1 => ((cc0_scratch6.slice (Rect.unit (s := S8) ![1] S1.size inb_S8_S1_1)).squeeze S_ squeezes_S1_S_).sem
  | 2 => ((cc0_scratch6.slice (Rect.unit (s := S8) ![2] S1.size inb_S8_S1_2)).squeeze S_ squeezes_S1_S_).sem
  | 3 => ((cc0_scratch6.slice (Rect.unit (s := S8) ![3] S1.size inb_S8_S1_3)).squeeze S_ squeezes_S1_S_).sem
  | 4 => ((cc0_scratch6.slice (Rect.unit (s := S8) ![4] S1.size inb_S8_S1_4)).squeeze S_ squeezes_S1_S_).sem
  | 5 => ((cc0_scratch6.slice (Rect.unit (s := S8) ![5] S1.size inb_S8_S1_5)).squeeze S_ squeezes_S1_S_).sem
  | 6 => ((cc0_scratch6.slice (Rect.unit (s := S8) ![6] S1.size inb_S8_S1_6)).squeeze S_ squeezes_S1_S_).sem
  | 7 => ((cc0_scratch6.slice (Rect.unit (s := S8) ![7] S1.size inb_S8_S1_7)).squeeze S_ squeezes_S1_S_).sem
/-- The semaphore of the copy of the `b`-th block out. -/
abbrev outS : Fin 8 → DmaSem sig := fun
  | 0 => ((cc0_scratch7.slice (Rect.unit (s := S8) ![0] S1.size inb_S8_S1_0)).squeeze S_ squeezes_S1_S_).sem
  | 1 => ((cc0_scratch7.slice (Rect.unit (s := S8) ![1] S1.size inb_S8_S1_1)).squeeze S_ squeezes_S1_S_).sem
  | 2 => ((cc0_scratch7.slice (Rect.unit (s := S8) ![2] S1.size inb_S8_S1_2)).squeeze S_ squeezes_S1_S_).sem
  | 3 => ((cc0_scratch7.slice (Rect.unit (s := S8) ![3] S1.size inb_S8_S1_3)).squeeze S_ squeezes_S1_S_).sem
  | 4 => ((cc0_scratch7.slice (Rect.unit (s := S8) ![4] S1.size inb_S8_S1_4)).squeeze S_ squeezes_S1_S_).sem
  | 5 => ((cc0_scratch7.slice (Rect.unit (s := S8) ![5] S1.size inb_S8_S1_5)).squeeze S_ squeezes_S1_S_).sem
  | 6 => ((cc0_scratch7.slice (Rect.unit (s := S8) ![6] S1.size inb_S8_S1_6)).squeeze S_ squeezes_S1_S_).sem
  | 7 => ((cc0_scratch7.slice (Rect.unit (s := S8) ![7] S1.size inb_S8_S1_7)).squeeze S_ squeezes_S1_S_).sem

theorem inS_val (b : Fin 8) : (inS b).val = b.val + 26 := by revert b; decide
theorem outS_val (b : Fin 8) : (outS b).val = b.val + 34 := by revert b; decide

/-- The credit of one copy in, and of one copy out. -/
abbrev NI : ℕ := (xbM 0).view.dmaCredit
abbrev NO : ℕ := (oM 0).view.dmaCredit
theorem NI_pos : 0 < NI := View.dmaCredit_pos _ (by decide)
theorem NO_pos : 0 < NO := View.dmaCredit_pos _ (by decide)
theorem amount_in (b : Fin 8) : (xbM b).view.amount (.dma (inS b)) = NI := by fin_cases b <;> rfl
theorem amount_out (b : Fin 8) : (oM b).view.amount (.dma (outS b)) = NO := by fin_cases b <;> rfl
theorem credit_in (b : Fin 8) : (xbM b).view.dmaCredit = NI := by fin_cases b <;> rfl
theorem credit_out (b : Fin 8) : (oM b).view.dmaCredit = NO := by fin_cases b <;> rfl

/-! ## Loads and stores through a rectangle, held by its own elements -/

section Generic
variable {α : Type} {Φ : α → sProp (MT nD τ sig Unit (Elt F) ℕ UU ℕ)}
variable {s s' : Shape} {e : EltTy}

/-- A load of a rectangle held by its own elements reads what it holds. -/
theorem load_slice (c : Dev nD) (m : Memref sig .tc .vmem s e) (r : Rect s) (h) (q : PosShare TreeShare) (X : r.shape.Idx → Elt F e)
    {hl : m.view.LoadsAt r} {k : (r.shape.Idx → Elt F e) → Prog (TpuEff nD τ sig (Elt F) Λ₀ .tc) α} :
    iprop((m.slice r h).view.loc (c : Thread nD τ) ↦[(m.slice r h).view.set]{q} (m.slice r h).view.rep X)
      ⊢ iprop((((m.slice r h).view.loc (c : Thread nD τ) ↦[(m.slice r h).view.set]{q} (m.slice r h).view.rep X)
            -∗ wp frame (wpE (defs₀ (F := F)) 𝒱₀ (c : Thread nD τ) none) Set.univ (k X) Φ)
        -∗ wp frame (wpE (defs₀ (F := F)) 𝒱₀ (c : Thread nD τ) none) Set.univ (.op (.load m r hl) k) Φ) := by
  have hr : (m.access r).read (Elt F) ((m.slice r h).view.rep X) = X := View.read_rep _ _
  iintro H Hk
  iapply (wp_load_rect (defs := defs₀ (F := F)) 𝒱₀ (c : Thread nD τ) none Set.univ (m := m) (r := r) (S := (m.access r).set) subset_rfl) $$ H
  rw [hr]
  iexact Hk

/-- The same through a squeeze of the rectangle. -/
theorem load_squeezed (c : Dev nD) (m : Memref sig .tc .vmem s e) (r : Rect s) (h) (hq : r.shape.Squeezes s') (q : PosShare TreeShare) (X : s'.Idx → Elt F e)
    {hl : m.view.LoadsAt r} {k : (r.shape.Idx → Elt F e) → Prog (TpuEff nD τ sig (Elt F) Λ₀ .tc) α} :
    iprop(((m.slice r h).squeeze s' hq).view.loc (c : Thread nD τ) ↦[((m.slice r h).squeeze s' hq).view.set]{q} ((m.slice r h).squeeze s' hq).view.rep X)
      ⊢ iprop(((((m.slice r h).squeeze s' hq).view.loc (c : Thread nD τ) ↦[((m.slice r h).squeeze s' hq).view.set]{q} ((m.slice r h).squeeze s' hq).view.rep X)
            -∗ wp frame (wpE (defs₀ (F := F)) 𝒱₀ (c : Thread nD τ) none) Set.univ (k (fun y => X (Shape.reshapeEquiv hq.numel_eq.symm y))) Φ)
        -∗ wp frame (wpE (defs₀ (F := F)) 𝒱₀ (c : Thread nD τ) none) Set.univ (.op (.load m r hl) k) Φ) := by
  have hs : ((m.slice r h).squeeze s' hq).view.set = (m.access r).set := View.set_reshape _ _
  have hr : (m.access r).read (Elt F) (((m.slice r h).squeeze s' hq).view.rep X) = fun y => X (Shape.reshapeEquiv hq.numel_eq.symm y) := by
    funext y
    have h0 : ((m.slice r h).squeeze s' hq).view.read (Elt F) (((m.slice r h).squeeze s' hq).view.rep X) (Shape.reshapeEquiv hq.numel_eq.symm y)
      = X (Shape.reshapeEquiv hq.numel_eq.symm y) := by rw [View.read_rep]
    rw [← h0]
    show _ = (m.access r).read (Elt F) _ (Shape.reshapeEquiv hq.numel_eq (Shape.reshapeEquiv hq.numel_eq.symm y))
    rw [Shape.reshapeEquiv_reshapeEquiv, Shape.reshapeEquiv_self]
  iintro H Hk
  iapply (wp_load_rect (defs := defs₀ (F := F)) 𝒱₀ (c : Thread nD τ) none Set.univ (m := m) (r := r)
    (S := ((m.slice r h).squeeze s' hq).view.set) (by rw [hs])) $$ H
  rw [hr]
  iexact Hk

/-- A store of a rectangle held by its own elements. -/
theorem store_slice (c : Dev nD) (m : Memref sig .tc .vmem s e) (r : Rect s) (h) (f) (w : r.shape.Idx → Elt F e)
    {hx : (m.access r).Stores Finset.univ} {hm} {k : PUnit → Prog (TpuEff nD τ sig (Elt F) Λ₀ .tc) α} :
    iprop((m.slice r h).view.loc (c : Thread nD τ) ↦[(m.slice r h).view.set]{fullShare} f)
      ⊢ iprop((((m.slice r h).view.loc (c : Thread nD τ) ↦[(m.slice r h).view.set]{fullShare} (m.slice r h).view.rep w)
            -∗ wp frame (wpE (defs₀ (F := F)) 𝒱₀ (c : Thread nD τ) none) Set.univ (k ⟨⟩) Φ)
        -∗ wp frame (wpE (defs₀ (F := F)) 𝒱₀ (c : Thread nD τ) none) Set.univ (.op (.store m r w Finset.univ hx hm) k) Φ) := by
  iintro H Hk
  iapply (wp_store (defs := defs₀ (F := F)) 𝒱₀ (c : Thread nD τ) none Set.univ (m := m) (r := r) (S := (m.access r).set) subset_rfl) $$ H
  iintro H
  iapply Hk
  iapply (pointsTo_rep_of_read (c : Thread nD τ) (m.slice r h) _ fullShare w (View.read_write_univ _ _))
  iexact H

/-- The same through a squeeze of the rectangle. -/
theorem store_squeezed (c : Dev nD) (m : Memref sig .tc .vmem s e) (r : Rect s) (h) (hq : r.shape.Squeezes s') (f) (w : r.shape.Idx → Elt F e)
    {hx : (m.access r).Stores Finset.univ} {hm} {k : PUnit → Prog (TpuEff nD τ sig (Elt F) Λ₀ .tc) α} :
    iprop(((m.slice r h).squeeze s' hq).view.loc (c : Thread nD τ) ↦[((m.slice r h).squeeze s' hq).view.set]{fullShare} f)
      ⊢ iprop(((((m.slice r h).squeeze s' hq).view.loc (c : Thread nD τ) ↦[((m.slice r h).squeeze s' hq).view.set]{fullShare}
                ((m.slice r h).squeeze s' hq).view.rep fun i => w (Shape.reshapeEquiv hq.numel_eq i))
            -∗ wp frame (wpE (defs₀ (F := F)) 𝒱₀ (c : Thread nD τ) none) Set.univ (k ⟨⟩) Φ)
        -∗ wp frame (wpE (defs₀ (F := F)) 𝒱₀ (c : Thread nD τ) none) Set.univ (.op (.store m r w Finset.univ hx hm) k) Φ) := by
  have hs : ((m.slice r h).squeeze s' hq).view.set = (m.access r).set := View.set_reshape _ _
  iintro H Hk
  iapply (wp_store (defs := defs₀ (F := F)) 𝒱₀ (c : Thread nD τ) none Set.univ (m := m) (r := r) (S := ((m.slice r h).squeeze s' hq).view.set)
    (by rw [hs]; exact subset_rfl)) $$ H
  iintro H
  iapply Hk
  iapply (pointsTo_rep_of_read (c : Thread nD τ) ((m.slice r h).squeeze s' hq) _ fullShare _ (by
    funext i
    show (m.access r).read (Elt F) _ (Shape.reshapeEquiv hq.numel_eq i) = _
    rw [View.read_write_univ]))
  iexact H

end Generic

/-! ## Blocks: what is held -/

def xAt (b : Fin 8) (c : Dev nD) (f : Vec F S2048x1024 .f32) : sProp 𝕄 :=
  (xM b).view.loc (c : Thread nD τ) ↦[(xM b).view.set]{fullShare} f
def xbAt (b : Fin 8) (c : Dev nD) (X : Vec F S256x1024 .f32) : sProp 𝕄 :=
  (xbM b).view.loc (c : Thread nD τ) ↦[(xbM b).view.set]{fullShare} (xbM b).view.rep X
def xbAny (b : Fin 8) (c : Dev nD) : sProp 𝕄 :=
  iprop(∃ f : Buf (Elt F) ((xbM b).view.loc (c : Thread nD τ)), (xbM b).view.loc (c : Thread nD τ) ↦[(xbM b).view.set]{fullShare} f)
def obAt (b : Fin 8) (c : Dev nD) (Y : Vec F S256x1024 .bf16) : sProp 𝕄 :=
  (obM b).view.loc (c : Thread nD τ) ↦[(obM b).view.set]{fullShare} (obM b).view.rep Y
def obAny (b : Fin 8) (c : Dev nD) : sProp 𝕄 :=
  iprop(∃ f : Buf (Elt F) ((obM b).view.loc (c : Thread nD τ)), (obM b).view.loc (c : Thread nD τ) ↦[(obM b).view.set]{fullShare} f)
def oAt (b : Fin 8) (c : Dev nD) (Y : Vec F S256x1024 .bf16) : sProp 𝕄 :=
  (oM b).view.loc (c : Thread nD τ) ↦[(oM b).view.set]{fullShare} (oM b).view.rep Y
def oAny (b : Fin 8) (c : Dev nD) : sProp 𝕄 :=
  iprop(∃ f : Buf (Elt F) ((oM b).view.loc (c : Thread nD τ)), (oM b).view.loc (c : Thread nD τ) ↦[(oM b).view.set]{fullShare} f)
/-- The `b`-th block of the array `f`. -/
def blk (b : Fin 8) (f : Vec F S2048x1024 .f32) : Vec F S256x1024 .f32 := (xM b).view.read (Elt F) f

/-- A copy in, or out, under way. -/
def inFl (b : Fin 8) (c : Dev nD) (f : Vec F S2048x1024 .f32) : sProp 𝕄 :=
  iprop(∃ fd : Buf (Elt F) ((xbM b).view.loc (c : Thread nD τ)), Transfers.Flight EC (c : Thread nD τ) (.dma (inS b)) () NI
    iprop(((xbM b).view.loc (c : Thread nD τ) ↦[(xbM b).view.set]{fullShare} (xbM b).view.write (Elt F) fd (blk b f) Finset.univ) ∗ xAt b c f))
def outFl (b : Fin 8) (c : Dev nD) (Y : Vec F S256x1024 .bf16) : sProp 𝕄 :=
  iprop(∃ fd : Buf (Elt F) ((oM b).view.loc (c : Thread nD τ)), Transfers.Flight EC (c : Thread nD τ) (.dma (outS b)) () NO
    iprop(((oM b).view.loc (c : Thread nD τ) ↦[(oM b).view.set]{fullShare} (oM b).view.write (Elt F) fd Y Finset.univ) ∗ obAt b c Y))

section Blocks
variable {α : Type} {Φ : α → sProp (MT nD τ sig Unit (Elt F) ℕ UU ℕ)}
variable {k : PUnit → Prog (TpuEff nD τ sig (Elt F) Λ₀ .tc) α}

theorem step_in (c : Dev nD) (b : Fin 8) (f : Vec F S2048x1024 .f32)
    {hsrc : (xM b).view.WordExact} {hdst : (xbM b).view.WordExact} {hsem : DmaTarget.Typed (nD := nD) .hbm (.dma (inS b)) (.here (p := Proc.tc) (xbM b))} :
    iprop(xAt b c f ∗ xbAny (F := F) b c ∗ semVal ((c : Thread nD τ), .dma (inS b)) 0)
      ⊢ iprop((inFl b c f -∗ wp frame (wpE (defs₀ (F := F)) 𝒱₀ (c : Thread nD τ) none) Set.univ (k ⟨⟩) Φ)
        -∗ wp frame (wpE (defs₀ (F := F)) 𝒱₀ (c : Thread nD τ) none) Set.univ
            (.op (.enqueueDma (xM b) (.here (p := Proc.tc) (xbM b)) (.dma (inS b)) hsrc hdst hsem) k) Φ) := by
  unfold xbAny
  iintro ⟨Hx, ⟨%fd, Hb⟩, Hv⟩ Hk
  unfold xAt
  iapply (Transfers.wp_dmaLocal EC 𝒱₀ (c : Thread nD τ) none () NI (amount_in b) NI_pos subset_rfl) $$ [Hx Hb Hv]
  · isplitl [Hx]; · iexact Hx
    isplitl [Hb]; · iexact Hb
    iexact Hv
  iintro Hf
  iapply Hk
  unfold inFl
  iexists fd
  iexact Hf

theorem step_out (c : Dev nD) (b : Fin 8) (Y : Vec F S256x1024 .bf16)
    {hsrc : (obM b).view.WordExact} {hdst : (oM b).view.WordExact} {hsem : DmaTarget.Typed (nD := nD) .vmem (.dma (outS b)) (.here (p := Proc.tc) (oM b))} :
    iprop(obAt b c Y ∗ oAny (F := F) b c ∗ semVal ((c : Thread nD τ), .dma (outS b)) 0)
      ⊢ iprop((outFl b c Y -∗ wp frame (wpE (defs₀ (F := F)) 𝒱₀ (c : Thread nD τ) none) Set.univ (k ⟨⟩) Φ)
        -∗ wp frame (wpE (defs₀ (F := F)) 𝒱₀ (c : Thread nD τ) none) Set.univ
            (.op (.enqueueDma (obM b) (.here (p := Proc.tc) (oM b)) (.dma (outS b)) hsrc hdst hsem) k) Φ) := by
  unfold oAny
  iintro ⟨Hx, ⟨%fd, Hb⟩, Hv⟩ Hk
  unfold obAt
  have e : (obM b).view.read (Elt F) ((obM b).view.rep Y) = Y := View.read_rep _ _
  iapply (Transfers.wp_dmaLocal EC 𝒱₀ (c : Thread nD τ) none () NO (amount_out b) NO_pos subset_rfl) $$ [Hx Hb Hv]
  · isplitl [Hx]; · iexact Hx
    isplitl [Hb]; · iexact Hb
    iexact Hv
  rw [show ReadAs.apply (Val := Elt F) ReadAs.same ((obM b).view.read (Elt F) ((obM b).view.rep Y)) = Y from e]
  iintro Hf
  iapply Hk
  unfold outFl
  iexists fd
  iexact Hf

theorem step_wait_in (c : Dev nD) (b : Fin 8) (f : Vec F S2048x1024 .f32) (o : ℕ) (ho : o ≤ 18)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = NI) :
    iprop(levAts L lv ∗ ow o c ∗ inFl b c f)
      ⊢ iprop(((ow o c ∗ semVal ((c : Thread nD τ), .dma (inS b)) 0 ∗ xbAt b c (blk b f) ∗ xAt b c f)
          -∗ wp frame (wpE (defs₀ (F := F)) 𝒱₀ (c : Thread nD τ) none) Set.univ (k ⟨⟩) Φ)
        -∗ wp frame (wpE (defs₀ (F := F)) 𝒱₀ (c : Thread nD τ) none) Set.univ (.op (.waitDma2 (inS b) src dst hsrc hdst) k) Φ) := by
  unfold ow inFl
  iintro ⟨#Hlev, ⟨%W, HO⟩, ⟨%fd, Hf⟩⟩ Hk
  iapply (Transfers.wp_waitLocalO EC 𝒱₀ (c : Thread nD τ) none () hN (O := owed o c) (W := W)) $$ [HO Hf]
  · isplitl [Hf]; · iexact Hf
    isplitl [HO]; · iexact HO
    iapply (mayWait c (.dma (inS b)) o (by omega) (by
      intro i hi
      rw [semLev_low _ (.inr (by rw [inS_val]; omega))]
      unfold payLev; split; · decide
      split <;> omega)); iexact Hlev
  iintro ⟨⟨Hb, Hx⟩, Hv, HO⟩
  iapply Hk
  isplitl [HO]; · iexists _; iexact HO
  isplitl [Hv]; · iexact Hv
  isplitl [Hb]
  · unfold xbAt
    iapply (pointsTo_rep_of_read (c : Thread nD τ) (xbM b) _ fullShare _ (View.read_write_univ _ _)) $$ Hb
  iexact Hx

theorem step_wait_out (c : Dev nD) (b : Fin 8) (Y : Vec F S256x1024 .bf16)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = NO) :
    iprop(levAts L lv ∗ ow 0 c ∗ outFl b c Y)
      ⊢ iprop(((ow 0 c ∗ semVal ((c : Thread nD τ), .dma (outS b)) 0 ∗ oAt b c Y ∗ obAt b c Y)
          -∗ wp frame (wpE (defs₀ (F := F)) 𝒱₀ (c : Thread nD τ) none) Set.univ (k ⟨⟩) Φ)
        -∗ wp frame (wpE (defs₀ (F := F)) 𝒱₀ (c : Thread nD τ) none) Set.univ (.op (.waitDma2 (outS b) src dst hsrc hdst) k) Φ) := by
  unfold ow outFl
  iintro ⟨#Hlev, ⟨%W, HO⟩, ⟨%fd, Hf⟩⟩ Hk
  iapply (Transfers.wp_waitLocalO EC 𝒱₀ (c : Thread nD τ) none () hN (O := owed 0 c) (W := W)) $$ [HO Hf]
  · isplitl [Hf]; · iexact Hf
    isplitl [HO]; · iexact HO
    iapply (mayWait c (.dma (outS b)) 0 (by omega) (fun i hi => absurd i.isLt (by omega))); iexact Hlev
  iintro ⟨⟨Hb, Hx⟩, Hv, HO⟩
  iapply Hk
  isplitl [HO]; · iexists _; iexact HO
  isplitl [Hv]; · iexact Hv
  isplitl [Hb]
  · unfold oAt
    iapply (pointsTo_rep_of_read (c : Thread nD τ) (oM b) _ fullShare _ (View.read_write_univ _ _)) $$ Hb
  iexact Hx

end Blocks

end Cert.Norm

end
-- ==== Proof.Norm.Accum.lean ====
/-
# The accumulator

A device's accumulator holds, for each half of its rows, the rows' sums and their sums of squares. Here: how it is filled,
256 rows at a time, how it is loaded and stored as a whole, and what the three exchanged partials add up to.
-/
module

public import proofs.«01_k».proof.Proof.Norm.Local

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Values -/

/-- The sums of the rows of a block (`s = 0`), and those of their squares (`s = 1`). -/
def statP (s : Fin 2) (v : Vec F S256x1024 .f32) : Vec F S1x1x256 .f32 := match s with | 0 => k0_pay1 v | 1 => k0_pay2 v

/-- Both, of the 1024 rows of a half of the input. -/
def sumsOf (ch : Fin 2) (f : Vec F S2048x1024 .f32) : Vec F S2x1024 .f32 := fun i =>
  statP (i 0) (blk ⟨4 * ch.val + (i 1).val / 256, by have h : (i 1).val < 1024 := (i 1).isLt; omega⟩ f)
    (ix3 (0 : Fin 1) (0 : Fin 1) ⟨(i 1).val % 256, Nat.mod_lt _ (by decide)⟩)

/-- A partial and the three that came for it. -/
def comb (a p q r : Vec F S2x1024 .f32) : Vec F S2x1024 .f32 := addf (addf (addf a p) q) r

/-- What the accumulator holds of each half before a phase's sends: a device's own sums, and then those of its row of the grid. -/
def Acc (x : Dev nD → Vec F S2048x1024 .f32) : Fin 2 → Fin 2 → Dev nD → Vec F S2x1024 .f32 := fun
  | 0, ch, c => sumsOf ch (x c)
  | 1, ch, c => comb (sumsOf ch (x c)) (sumsOf ch (x (pd 0 c))) (sumsOf ch (x (pd 1 c))) (sumsOf ch (x (pd 2 c)))
/-- The sums over the whole mesh. -/
def Tot (x : Dev nD → Vec F S2048x1024 .f32) (ch : Fin 2) (c : Dev nD) : Vec F S2x1024 .f32 :=
  comb (Acc x 1 ch c) (Acc x 1 ch (pd 6 c)) (Acc x 1 ch (pd 7 c)) (Acc x 1 ch (pd 8 c))

theorem cast_back {s s' : Shape} {e : EltTy} (h : s'.numel = s.numel) (X : s.Idx → Elt F e) (h' : s'.ShapeCasts s) :
    shapeCast s (fun y => X (Shape.reshapeEquiv h y)) h' = X := by
  funext i
  show X (Shape.reshapeEquiv h (Shape.reshapeEquiv _ i)) = X i
  rw [Shape.reshapeEquiv_reshapeEquiv, Shape.reshapeEquiv_self]

theorem pay_comb (a p q r : Vec F S2x1024 .f32) (h1 : S1x2x1024.numel = S2x1024.numel) (h2 h3 h4 : S1x1x1x2x1024.numel = S2x1024.numel)
    (h5 : S2x1024.numel = S1x2x1024.numel) :
    (fun i => k0_pay19 (fun y => a (Shape.reshapeEquiv h1 y)) (fun y => p (Shape.reshapeEquiv h2 y)) (fun y => q (Shape.reshapeEquiv h3 y))
      (fun y => r (Shape.reshapeEquiv h4 y)) (Shape.reshapeEquiv h5 i)) = comb a p q r := by
  funext i
  have e1 := cast_back (F := F) (e := .f32) h1 a shapeCasts_S1x2x1024_S2x1024
  have e2 := cast_back (F := F) (e := .f32) h2 p shapeCasts_S1x1x1x2x1024_S2x1024
  have e3 := cast_back (F := F) (e := .f32) h3 q shapeCasts_S1x1x1x2x1024_S2x1024
  have e4 := cast_back (F := F) (e := .f32) h4 r shapeCasts_S1x1x1x2x1024_S2x1024
  unfold k0_pay19 comb
  rw [e1, e2, e3, e4]
  show addf (addf (addf a p) q) r (Shape.reshapeEquiv _ (Shape.reshapeEquiv h5 i)) = _
  rw [Shape.reshapeEquiv_reshapeEquiv, Shape.reshapeEquiv_self]

/-! ## Filling a half -/

theorem acc_emb (ch : Fin 2) (i : S2x1024.Idx) : (accM ch).view.emb i = ix3 ch (i 0) (i 1) := by
  have h := reshapeEquiv_ix2_1ab (a := 2) (b := 1024) squeezes_S1x2x1024_S2x1024.numel_eq (i 0) (i 1)
  have e : Shape.reshapeEquiv squeezes_S1x2x1024_S2x1024.numel_eq i = _ := (congrArg (Shape.reshapeEquiv squeezes_S1x2x1024_S2x1024.numel_eq) (eq_ix2 i)).trans h
  show (Rect.unit (s := S2x2x1024) (offC ch) S1x2x1024.size (inbC ch)).emb (Shape.reshapeEquiv squeezes_S1x2x1024_S2x1024.numel_eq i) = ix3 ch (i 0) (i 1)
  refine (congrArg (Rect.unit (s := S2x2x1024) (offC ch) S1x2x1024.size (inbC ch)).emb e).trans ?_
  funext a
  apply Fin.ext
  match a with
  | ⟨0, _⟩ => show offC ch 0 + 1 * 0 = ch.val; revert ch; decide
  | ⟨1, _⟩ => show offC ch 1 + 1 * (i 0).val = (i 0).val; rw [show offC ch 1 = 0 by revert ch; decide]; omega
  | ⟨2, _⟩ => show offC ch 2 + 1 * (i 1).val = (i 1).val; rw [show offC ch 2 = 0 by revert ch; decide]; omega

/-- Where the `k`-th of the eight stores that fill a half goes. -/
abbrev offA : Fin 2 → Fin 8 → Fin 3 → ℕ := fun
  | 0, 0 => ![0, 0, 0]
  | 0, 1 => ![0, 1, 0]
  | 0, 2 => ![0, 0, 256]
  | 0, 3 => ![0, 1, 256]
  | 0, 4 => ![0, 0, 512]
  | 0, 5 => ![0, 1, 512]
  | 0, 6 => ![0, 0, 768]
  | 0, 7 => ![0, 1, 768]
  | 1, 0 => ![1, 0, 0]
  | 1, 1 => ![1, 1, 0]
  | 1, 2 => ![1, 0, 256]
  | 1, 3 => ![1, 1, 256]
  | 1, 4 => ![1, 0, 512]
  | 1, 5 => ![1, 1, 512]
  | 1, 6 => ![1, 0, 768]
  | 1, 7 => ![1, 1, 768]
theorem inbA (ch : Fin 2) (k : Fin 8) : ∀ a, offA ch k a + S1x1x256.size a ≤ S2x2x1024.size a := by revert ch k; decide
theorem offA_0 (ch : Fin 2) (k : Fin 8) : offA ch k 0 = ch.val := by revert ch k; decide
theorem offA_1 (ch : Fin 2) (k : Fin 8) : offA ch k 1 = k.val % 2 := by revert ch k; decide
theorem offA_2 (ch : Fin 2) (k : Fin 8) : offA ch k 2 = 256 * (k.val / 2) := by revert ch k; decide
abbrev statR (ch : Fin 2) (k : Fin 8) : Rect S2x2x1024 := Rect.unit (s := S2x2x1024) (offA ch k) S1x1x256.size (inbA ch k)

theorem stat_emb (ch : Fin 2) (k : Fin 8) (j : S1x1x256.Idx) :
    ((Memref.whole cc0_scratch2).access (statR ch k)).emb j
      = (accM ch).view.emb (ix2 (⟨k.val % 2, by omega⟩ : Fin 2) (⟨256 * (k.val / 2) + (j 2).val, by have h : (j 2).val < 256 := (j 2).isLt; omega⟩ : Fin 1024)) := by
  have h0 : (j 0).val < 1 := (j 0).isLt
  have h1 : (j 1).val < 1 := (j 1).isLt
  rw [acc_emb]
  funext a
  apply Fin.ext
  match a with
  | ⟨0, _⟩ => show offA ch k 0 + 1 * (j 0).val = ch.val; rw [offA_0]; omega
  | ⟨1, _⟩ => show offA ch k 1 + 1 * (j 1).val = k.val % 2; rw [offA_1]; omega
  | ⟨2, _⟩ => show offA ch k 2 + 1 * (j 2).val = 256 * (k.val / 2) + (j 2).val; rw [offA_2]; omega

theorem stat_sub (ch : Fin 2) (k : Fin 8) : ((Memref.whole cc0_scratch2).access (statR ch k)).set ⊆ (accM ch).view.set := by
  intro x hx
  obtain ⟨j, -, rfl⟩ := Finset.mem_map.1 hx
  rw [stat_emb]
  exact View.emb_mem_set _ _

/-- A half of the accumulator after the first `k` of its eight stores. -/
def accPart (ch : Fin 2) (c : Dev nD) (X : Vec F S2x1024 .f32) (k : ℕ) : sProp 𝕄 :=
  iprop(∃ f : Buf (Elt F) ((accM ch).view.loc (c : Thread nD τ)),
    ⌜∀ i : S2x1024.Idx, 2 * ((i 1).val / 256) + (i 0).val < k → (accM ch).view.read (Elt F) f i = X i⌝
      ∗ (accM ch).view.loc (c : Thread nD τ) ↦[(accM ch).view.set]{fullShare} f)

theorem accPart_done (ch : Fin 2) (c : Dev nD) (X : Vec F S2x1024 .f32) : accPart ch c X 8 ⊢ accAt ch c fullShare X := by
  unfold accPart
  iintro ⟨%f, %hf, H⟩
  unfold accAt
  iapply (pointsTo_rep_of_read (c : Thread nD τ) (accM ch) f fullShare X (by
    funext i
    have h0 : (i 0).val < 2 := (i 0).isLt
    have h1 : (i 1).val < 1024 := (i 1).isLt
    exact hf i (by omega))) $$ H

theorem stat_write (ch : Fin 2) (k : Fin 8) (f : (accM ch).view.ty.Contents (Elt F)) (w : Vec F S1x1x256 .f32) (X : Vec F S2x1024 .f32)
    (hX : ∀ j : S1x1x256.Idx, X (ix2 (⟨k.val % 2, by omega⟩ : Fin 2) (⟨256 * (k.val / 2) + (j 2).val, by have h : (j 2).val < 256 := (j 2).isLt; omega⟩ : Fin 1024)) = w j)
    (hf : ∀ i : S2x1024.Idx, 2 * ((i 1).val / 256) + (i 0).val < k.val → (accM ch).view.read (Elt F) f i = X i) :
    ∀ i : S2x1024.Idx, 2 * ((i 1).val / 256) + (i 0).val < k.val + 1 →
      (accM ch).view.read (Elt F) (((Memref.whole cc0_scratch2).access (statR ch k)).write (Elt F) f w Finset.univ) i = X i := by
  intro i hi
  have h0 : (i 0).val < 2 := (i 0).isLt
  have h1 : (i 1).val < 1024 := (i 1).isLt
  by_cases hk : 2 * ((i 1).val / 256) + (i 0).val = k.val
  · have hj : i = ix2 (⟨k.val % 2, by omega⟩ : Fin 2) (⟨256 * (k.val / 2) + (i 1).val % 256, by omega⟩ : Fin 1024) := by
      funext a; apply Fin.ext
      match a with
      | ⟨0, _⟩ => show (i 0).val = k.val % 2; omega
      | ⟨1, _⟩ => show (i 1).val = 256 * (k.val / 2) + (i 1).val % 256; omega
    have hw := View.write_emb_of_mem (v := (Memref.whole cc0_scratch2).access (statR ch k)) (Val := Elt F) f w
      (Finset.mem_univ (ix3 (0 : Fin 1) (0 : Fin 1) (⟨(i 1).val % 256, Nat.mod_lt _ (by decide)⟩ : Fin 256)))
    rw [stat_emb] at hw
    have hx := hX (ix3 (0 : Fin 1) (0 : Fin 1) (⟨(i 1).val % 256, Nat.mod_lt _ (by decide)⟩ : Fin 256))
    rw [hj, View.read_apply, hx]
    generalize ((Memref.whole cc0_scratch2).access (statR ch k)).write (Elt F) f w Finset.univ = g at hw ⊢
    exact (congrArg (fun x => _root_.cast _ x) hw).trans (by rw [_root_.cast_cast]; rfl)
  · rw [← hf i (by omega), View.read_apply, View.read_apply]
    refine congrArg (fun x => _root_.cast _ x) ?_
    refine View.write_of_not_mem (v := (Memref.whole cc0_scratch2).access (statR ch k)) (Val := Elt F) f w Finset.univ ?_
    intro hm
    obtain ⟨j, -, hj⟩ := Finset.mem_map.1 hm
    rw [stat_emb] at hj
    have := (accM ch).view.emb.injective hj
    apply hk
    have e0 := congrArg Fin.val (congrFun this 0)
    have e1 := congrArg Fin.val (congrFun this 1)
    have h2 : (j 2).val < 256 := (j 2).isLt
    change k.val % 2 = (i 0).val at e0
    change 256 * (k.val / 2) + (j 2).val = (i 1).val at e1
    omega

section Acc
variable {α : Type} {Φ : α → sProp (MT nD τ sig Unit (Elt F) ℕ UU ℕ)}
variable {k : PUnit → Prog (TpuEff nD τ sig (Elt F) Λ₀ .tc) α}

/-- The `p`-th store into a half, after the load before it. -/
theorem step_stat (c : Dev nD) (ch : Fin 2) (p : Fin 8) (f : Vec F S2048x1024 .f32) (w : Vec F S1x1x256 .f32)
    (hw : w = statP ⟨p.val % 2, by omega⟩ (blk ⟨4 * ch.val + p.val / 2, by omega⟩ f))
    {hl : (Memref.whole cc0_scratch2).view.LoadsAt (statR ch p).toLoadRect} {hx} {hm} :
    iprop(accPart ch c (sumsOf ch f) p.val)
      ⊢ iprop((accPart ch c (sumsOf ch f) (p.val + 1) -∗ wp frame (wpE (defs₀ (F := F)) 𝒱₀ (c : Thread nD τ) none) Set.univ (k ⟨⟩) Φ)
        -∗ wp frame (wpE (defs₀ (F := F)) 𝒱₀ (c : Thread nD τ) none) Set.univ
            (.op (.load (Memref.whole cc0_scratch2) (statR ch p).toLoadRect hl) fun _ =>
              .op (.store (Memref.whole cc0_scratch2) (statR ch p) w Finset.univ hx hm) k) Φ) := by
  unfold accPart
  iintro ⟨%g, %hg, H⟩ Hk
  iapply (wp_load_rect (defs := defs₀ (F := F)) 𝒱₀ (c : Thread nD τ) none Set.univ (m := Memref.whole cc0_scratch2) (r := statR ch p)
    (S := (accM ch).view.set) (stat_sub ch p)) $$ H
  iintro H
  iapply (wp_store (defs := defs₀ (F := F)) 𝒱₀ (c : Thread nD τ) none Set.univ (m := Memref.whole cc0_scratch2) (r := statR ch p)
    (S := (accM ch).view.set) (stat_sub ch p)) $$ H
  iintro H
  iapply Hk
  iexists _
  isplitr
  rotate_left
  · iexact H
  ipureintro
  refine stat_write ch p g w _ (fun j => ?_) hg
  subst hw
  have h0 : (j 0).val < 1 := (j 0).isLt
  have h1 : (j 1).val < 1 := (j 1).isLt
  have h2 : (j 2).val < 256 := (j 2).isLt
  show statP _ (blk ⟨4 * ch.val + (256 * (p.val / 2) + (j 2).val) / 256, _⟩ f) (ix3 (0 : Fin 1) (0 : Fin 1) ⟨(256 * (p.val / 2) + (j 2).val) % 256, _⟩) = _
  have ej : (ix3 (0 : Fin 1) (0 : Fin 1) (⟨(256 * (p.val / 2) + (j 2).val) % 256, Nat.mod_lt _ (by decide)⟩ : Fin 256)) = j := by
    funext a; apply Fin.ext
    match a with
    | ⟨0, _⟩ => show 0 = (j 0).val; omega
    | ⟨1, _⟩ => show 0 = (j 1).val; omega
    | ⟨2, _⟩ => show (256 * (p.val / 2) + (j 2).val) % 256 = (j 2).val; omega
  have eb : (256 * (p.val / 2) + (j 2).val) / 256 = p.val / 2 := by omega
  simp only [eb, ej]

/-! ## The halves as wholes -/

abbrev chR (ch : Fin 2) : Rect S2x2x1024 := Rect.unit (s := S2x2x1024) (offC ch) S1x2x1024.size (inbC ch)
abbrev slR (n : Fin 12) : Rect S2x2x3x2x1024 := Rect.unit (s := S2x2x3x2x1024) (offS n) S1x1x1x2x1024.size (inbSl n)

theorem step_load_acc (c : Dev nD) (ch : Fin 2) (q : PosShare TreeShare) (X : Vec F S2x1024 .f32)
    {hl : (Memref.whole cc0_scratch2).view.LoadsAt (chR ch).toLoadRect} {k : Vec F S1x2x1024 .f32 → Prog (TpuEff nD τ sig (Elt F) Λ₀ .tc) α} :
    iprop(accAt ch c q X)
      ⊢ iprop((accAt ch c q X -∗ wp frame (wpE (defs₀ (F := F)) 𝒱₀ (c : Thread nD τ) none) Set.univ
            (k (fun y => X (Shape.reshapeEquiv squeezes_S1x2x1024_S2x1024.numel_eq.symm y))) Φ)
        -∗ wp frame (wpE (defs₀ (F := F)) 𝒱₀ (c : Thread nD τ) none) Set.univ (.op (.load (Memref.whole cc0_scratch2) (chR ch).toLoadRect hl) k) Φ) :=
  load_squeezed c (Memref.whole cc0_scratch2) (chR ch) (fun _ => rfl) squeezes_S1x2x1024_S2x1024 q X

theorem step_load_slot (c : Dev nD) (n : Fin 12) (X : Vec F S2x1024 .f32)
    {hl : (Memref.whole cc0_scratch3).view.LoadsAt (slR n).toLoadRect} {k : Vec F S1x1x1x2x1024 .f32 → Prog (TpuEff nD τ sig (Elt F) Λ₀ .tc) α} :
    iprop(slotAt n c X)
      ⊢ iprop((slotAt n c X -∗ wp frame (wpE (defs₀ (F := F)) 𝒱₀ (c : Thread nD τ) none) Set.univ
            (k (fun y => X (Shape.reshapeEquiv squeezes_S1x1x1x2x1024_S2x1024.numel_eq.symm y))) Φ)
        -∗ wp frame (wpE (defs₀ (F := F)) 𝒱₀ (c : Thread nD τ) none) Set.univ (.op (.load (Memref.whole cc0_scratch3) (slR n).toLoadRect hl) k) Φ) :=
  load_squeezed c (Memref.whole cc0_scratch3) (slR n) (fun _ => rfl) squeezes_S1x1x1x2x1024_S2x1024 fullShare X

/-- The store of a half, after the load before it. -/
theorem step_store_acc (c : Dev nD) (ch : Fin 2) (X Y : Vec F S2x1024 .f32) (w : Vec F S1x2x1024 .f32)
    (hw : (fun i => w (Shape.reshapeEquiv squeezes_S1x2x1024_S2x1024.numel_eq i)) = Y)
    {hl : (Memref.whole cc0_scratch2).view.LoadsAt (chR ch).toLoadRect} {hx} {hm} :
    iprop(accAt ch c fullShare X)
      ⊢ iprop((accAt ch c fullShare Y -∗ wp frame (wpE (defs₀ (F := F)) 𝒱₀ (c : Thread nD τ) none) Set.univ (k ⟨⟩) Φ)
        -∗ wp frame (wpE (defs₀ (F := F)) 𝒱₀ (c : Thread nD τ) none) Set.univ
            (.op (.load (Memref.whole cc0_scratch2) (chR ch).toLoadRect hl) fun _ =>
              .op (.store (Memref.whole cc0_scratch2) (chR ch) w Finset.univ hx hm) k) Φ) := by
  subst hw
  iintro H Hk
  iapply (step_load_acc c ch fullShare X) $$ H
  iintro H
  unfold accAt
  iapply (store_squeezed c (Memref.whole cc0_scratch2) (chR ch) (fun _ => rfl) squeezes_S1x2x1024_S2x1024 _ w) $$ H
  iexact Hk

/-! ## A row of a half -/

abbrev offRw : Fin 2 → Fin 2 → Fin 3 → ℕ := fun
  | 0, 0 => ![0, 0, 0]
  | 0, 1 => ![0, 1, 0]
  | 1, 0 => ![1, 0, 0]
  | 1, 1 => ![1, 1, 0]
theorem inbRw (ch s : Fin 2) : ∀ a, offRw ch s a + S1x1x1024.size a ≤ S2x2x1024.size a := by revert ch s; decide
abbrev rowR (ch s : Fin 2) : Rect S2x2x1024 := Rect.unit (s := S2x2x1024) (offRw ch s) S1x1x1024.size (inbRw ch s)
/-- A row of sums, as it is loaded. -/
def rowOf (s : Fin 2) (X : Vec F S2x1024 .f32) : Vec F S1x1x1024 .f32 := fun y => X (ix2 s (⟨(y 2).val, (y 2).isLt⟩ : Fin 1024))

theorem row_emb (ch s : Fin 2) (j : S1x1x1024.Idx) :
    ((Memref.whole cc0_scratch2).access (rowR ch s)).emb j = (accM ch).view.emb (ix2 s (⟨(j 2).val, (j 2).isLt⟩ : Fin 1024)) := by
  have h0 : (j 0).val < 1 := (j 0).isLt
  have h1 : (j 1).val < 1 := (j 1).isLt
  rw [acc_emb]
  funext a
  apply Fin.ext
  match a with
  | ⟨0, _⟩ => show offRw ch s 0 + 1 * (j 0).val = ch.val; rw [show offRw ch s 0 = ch.val by revert ch s; decide]; omega
  | ⟨1, _⟩ => show offRw ch s 1 + 1 * (j 1).val = s.val; rw [show offRw ch s 1 = s.val by revert ch s; decide]; omega
  | ⟨2, _⟩ => show offRw ch s 2 + 1 * (j 2).val = (j 2).val; rw [show offRw ch s 2 = 0 by revert ch s; decide]; omega

theorem row_sub (ch s : Fin 2) : ((Memref.whole cc0_scratch2).access (rowR ch s)).set ⊆ (accM ch).view.set := by
  intro x hx
  obtain ⟨j, -, rfl⟩ := Finset.mem_map.1 hx
  rw [row_emb]
  exact View.emb_mem_set _ _

theorem step_load_row (c : Dev nD) (ch s : Fin 2) (q : PosShare TreeShare) (X : Vec F S2x1024 .f32)
    {hl : (Memref.whole cc0_scratch2).view.LoadsAt (rowR ch s).toLoadRect} {k : Vec F S1x1x1024 .f32 → Prog (TpuEff nD τ sig (Elt F) Λ₀ .tc) α} :
    iprop(accAt ch c q X)
      ⊢ iprop((accAt ch c q X -∗ wp frame (wpE (defs₀ (F := F)) 𝒱₀ (c : Thread nD τ) none) Set.univ (k (rowOf s X)) Φ)
        -∗ wp frame (wpE (defs₀ (F := F)) 𝒱₀ (c : Thread nD τ) none) Set.univ (.op (.load (Memref.whole cc0_scratch2) (rowR ch s).toLoadRect hl) k) Φ) := by
  have hr : ((Memref.whole cc0_scratch2).access (rowR ch s)).read (Elt F) ((accM ch).view.rep X) = rowOf s X := by
    funext j
    have h0 : (accM ch).view.read (Elt F) ((accM ch).view.rep X) (ix2 s (⟨(j 2).val, (j 2).isLt⟩ : Fin 1024)) = rowOf s X j := by rw [View.read_rep]; rfl
    rw [← h0, View.read_apply, View.read_apply]
    generalize (accM ch).view.rep X = g
    exact congrArg (fun x => _root_.cast _ (g x)) (row_emb ch s j)
  unfold accAt
  iintro H Hk
  iapply (wp_load_rect (defs := defs₀ (F := F)) 𝒱₀ (c : Thread nD τ) none Set.univ (m := Memref.whole cc0_scratch2) (r := rowR ch s)
    (S := (accM ch).view.set) (row_sub ch s)) $$ H
  rw [hr]
  iexact Hk

end Acc

end Cert.Norm

end
-- ==== Proof.Norm.Take.lean ====
/-
# The steps of the kernel's body

Each step of the body in the form in which the body's parts use it: what a step takes is one bundle per thing that the
kernel names (a block, a send, a slot), and the values are those that the input `x` of all devices gives.
-/
module

public import proofs.«01_k».proof.Proof.Norm.Accum

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Where the signals and sends go -/

theorem dev1 : ∀ c : Dev nD, (⟨k0_dev1 c, k0_dev1_lt c⟩ : Dev nD) = part 0 c := by decide +kernel
theorem dev2 : ∀ c : Dev nD, (⟨k0_dev2 c, k0_dev2_lt c⟩ : Dev nD) = part 1 c := by decide +kernel
theorem dev3 : ∀ c : Dev nD, (⟨k0_dev3 c, k0_dev3_lt c⟩ : Dev nD) = part 2 c := by decide +kernel
theorem dev4 : ∀ c : Dev nD, (⟨k0_dev4 c, k0_dev4_lt c⟩ : Dev nD) = part 3 c := by decide +kernel
theorem dev5 : ∀ c : Dev nD, (⟨k0_dev5 c, k0_dev5_lt c⟩ : Dev nD) = part 4 c := by decide +kernel
theorem dev6 : ∀ c : Dev nD, (⟨k0_dev6 c, k0_dev6_lt c⟩ : Dev nD) = part 5 c := by decide +kernel
theorem dev7 : ∀ c : Dev nD, (⟨k0_dev7 c, k0_dev7_lt c⟩ : Dev nD) = pd 0 c := by decide +kernel
theorem dev8 : ∀ c : Dev nD, (⟨k0_dev8 c, k0_dev8_lt c⟩ : Dev nD) = pd 1 c := by decide +kernel
theorem dev9 : ∀ c : Dev nD, (⟨k0_dev9 c, k0_dev9_lt c⟩ : Dev nD) = pd 2 c := by decide +kernel
theorem dev10 : ∀ c : Dev nD, (⟨k0_dev10 c, k0_dev10_lt c⟩ : Dev nD) = pd 3 c := by decide +kernel
theorem dev11 : ∀ c : Dev nD, (⟨k0_dev11 c, k0_dev11_lt c⟩ : Dev nD) = pd 4 c := by decide +kernel
theorem dev12 : ∀ c : Dev nD, (⟨k0_dev12 c, k0_dev12_lt c⟩ : Dev nD) = pd 5 c := by decide +kernel
theorem dev13 : ∀ c : Dev nD, (⟨k0_dev13 c, k0_dev13_lt c⟩ : Dev nD) = pd 6 c := by decide +kernel
theorem dev14 : ∀ c : Dev nD, (⟨k0_dev14 c, k0_dev14_lt c⟩ : Dev nD) = pd 7 c := by decide +kernel
theorem dev15 : ∀ c : Dev nD, (⟨k0_dev15 c, k0_dev15_lt c⟩ : Dev nD) = pd 8 c := by decide +kernel
theorem dev16 : ∀ c : Dev nD, (⟨k0_dev16 c, k0_dev16_lt c⟩ : Dev nD) = pd 9 c := by decide +kernel
theorem dev17 : ∀ c : Dev nD, (⟨k0_dev17 c, k0_dev17_lt c⟩ : Dev nD) = pd 10 c := by decide +kernel
theorem dev18 : ∀ c : Dev nD, (⟨k0_dev18 c, k0_dev18_lt c⟩ : Dev nD) = pd 11 c := by decide +kernel
theorem dev19 : ∀ c : Dev nD, (⟨k0_dev19 c, k0_dev19_lt c⟩ : Dev nD) = part 0 c := by decide +kernel
theorem dev20 : ∀ c : Dev nD, (⟨k0_dev20 c, k0_dev20_lt c⟩ : Dev nD) = part 1 c := by decide +kernel
theorem dev21 : ∀ c : Dev nD, (⟨k0_dev21 c, k0_dev21_lt c⟩ : Dev nD) = part 2 c := by decide +kernel
theorem dev22 : ∀ c : Dev nD, (⟨k0_dev22 c, k0_dev22_lt c⟩ : Dev nD) = part 3 c := by decide +kernel
theorem dev23 : ∀ c : Dev nD, (⟨k0_dev23 c, k0_dev23_lt c⟩ : Dev nD) = part 4 c := by decide +kernel
theorem dev24 : ∀ c : Dev nD, (⟨k0_dev24 c, k0_dev24_lt c⟩ : Dev nD) = part 5 c := by decide +kernel

/-! ## Bundles -/

/-- A block of the input with what its copy in needs; and what is left of it after the copy, the buffer apart. -/
def inR (b : Fin 8) (c : Dev nD) (f : Vec F S2048x1024 .f32) : sProp 𝕄 :=
  iprop(xAt b c f ∗ xbAny (F := F) b c ∗ semVal ((c : Thread nD τ), .dma (inS b)) 0)
def inZ (b : Fin 8) (c : Dev nD) (f : Vec F S2048x1024 .f32) : sProp 𝕄 :=
  iprop(xAt b c f ∗ semVal ((c : Thread nD τ), .dma (inS b)) 0)
/-- A block of the output, likewise. -/
def outR (b : Fin 8) (c : Dev nD) : sProp 𝕄 :=
  iprop(obAny (F := F) b c ∗ oAny (F := F) b c ∗ semVal ((c : Thread nD τ), .dma (outS b)) 0)
def outM (b : Fin 8) (c : Dev nD) (Y : Vec F S256x1024 .bf16) : sProp 𝕄 :=
  iprop(obAt b c Y ∗ oAny (F := F) b c ∗ semVal ((c : Thread nD τ), .dma (outS b)) 0)
def outZ (b : Fin 8) (c : Dev nD) (Y : Vec F S256x1024 .bf16) : sProp 𝕄 :=
  iprop(oAt b c Y ∗ obAt b c Y ∗ semVal ((c : Thread nD τ), .dma (outS b)) 0)
/-- What the signal to partner `j` at the barrier, or at the exit, needs; and what the two waits need. -/
def barR (j : Fin 6) (c : Dev nD) : sProp 𝕄 :=
  iprop(dutyTok ER (barCell (part j c)) 0 j ∗ slotAny (F := F) (nOf j 0) c ∗ slotAny (F := F) (nOf j 1) c)
def exitR (j : Fin 6) (c : Dev nD) : sProp 𝕄 := dutyTok ER (exitCell (part j c)) 0 j
def barW (c : Dev nD) : sProp 𝕄 := iprop(cred (tallyAt (barCell c) () 6) ∗ atPos ER (barCell c) 0 ∅ 0)
def exitW (c : Dev nD) : sProp 𝕄 := iprop(cred (tallyAt (exitCell c) () 6) ∗ atPos ER (exitCell c) 0 ∅ 0)
/-- What the `n`-th send needs besides the sums and the right to the slot; what the wait for it needs; what the wait for slot `n` needs. -/
def sndR (n : Fin 12) (c : Dev nD) : sProp 𝕄 :=
  iprop(dutyTok ER (sendCell n c) 0 0 ∗ dutyTok ER (recvCell (mir n) (pd n c)) 0 0 ∗ atPos ER (sendCell n c) 0 ∅ 0)
def sndW (n : Fin 12) (c : Dev nD) : sProp 𝕄 := iprop(cred (tallyAt (sendCell n c) () N) ∗ atPos ER (sendCell n c) 0 ∅ 0)
def rcvW (n : Fin 12) (c : Dev nD) : sProp 𝕄 := iprop(cred (tallyAt (recvCell n c) () N) ∗ atPos ER (recvCell n c) 0 ∅ 0)
/-- Slot `n` with the partner's sums. -/
def rcvP (x : Dev nD → Vec F S2048x1024 .f32) (n : Fin 12) (c : Dev nD) : sProp 𝕄 := slotAt n c (Acc x (phN n) (chN n) (pd n c))
/-- The share of the sums that the `n`-th send reads. -/
def sndP (x : Dev nD → Vec F S2048x1024 .f32) (n : Fin 12) (c : Dev nD) : sProp 𝕄 := accAt (chN n) c (sh n) (Acc x (phN n) (chN n) c)
/-- A staged row vector. -/
def gAt (M : Memref sig .tc .vmem S1024 .f32) (c : Dev nD) (g : Vec F S1024 .f32) : sProp 𝕄 :=
  M.view.loc (c : Thread nD τ) ↦[M.view.set]{fullShare} M.view.rep g
/-- A semaphore at rest. -/
abbrev rest (g : GSem nD τ sig) : sProp 𝕄 := semVal g 0

/-! ## Values -/

/-- A half of the sums, and a slot, as they are loaded. -/
def rdA (X : Vec F S2x1024 .f32) : Vec F S1x2x1024 .f32 := fun y => X (Shape.reshapeEquiv squeezes_S1x2x1024_S2x1024.numel_eq.symm y)
def rdS (X : Vec F S2x1024 .f32) : Vec F S1x1x1x2x1024 .f32 := fun y => X (Shape.reshapeEquiv squeezes_S1x1x1x2x1024_S2x1024.numel_eq.symm y)
/-- The partner's sums in slot `n`. -/
abbrev got (x : Dev nD → Vec F S2048x1024 .f32) (n : Fin 12) (c : Dev nD) : Vec F S2x1024 .f32 := Acc x (phN n) (chN n) (pd n c)

/-- The `k`-th block of a half of the output, from the sums over the mesh, the two row vectors and the block of the input. -/
def outB (T : Vec F S2x1024 .f32) (g bt : Vec F S1024 .f32) (X : Vec F S256x1024 .f32) : Fin 4 → Vec F S256x1024 .bf16 := fun
  | 0 => k0_pay40 (rowOf 0 T) (rowOf 1 T) g bt X
  | 1 => k0_pay41 (k0_pay36 (rowOf 0 T)) (k0_pay37 (rowOf 0 T) (rowOf 1 T)) (k0_pay38 g) (k0_pay39 bt) X
  | 2 => k0_pay42 (k0_pay36 (rowOf 0 T)) (k0_pay37 (rowOf 0 T) (rowOf 1 T)) (k0_pay38 g) (k0_pay39 bt) X
  | 3 => k0_pay43 (k0_pay36 (rowOf 0 T)) (k0_pay37 (rowOf 0 T) (rowOf 1 T)) (k0_pay38 g) (k0_pay39 bt) X
/-- Block `b` of device `c`'s output. -/
def outV (x : Dev nD → Vec F S2048x1024 .f32) (g bt : Vec F S1024 .f32) (c : Dev nD) (b : Fin 8) : Vec F S256x1024 .bf16 :=
  outB (Tot x ⟨b.val / 4, by omega⟩ c) g bt (blk b (x c)) ⟨b.val % 4, by omega⟩

/-- The mean and the inverse deviation of a half's rows, from the sums over the mesh. -/
abbrev cst : F .f32 := Scalar.ofBits .f32 0x38800000#32
abbrev mu0 (T : Vec F S2x1024 .f32) : FVec F S1024x1 .f32 := k0_pay23 (k0_pay21 (rowOf 0 T)) cst
abbrev iv0 (T : Vec F S2x1024 .f32) : FVec F S1024x1 .f32 := k0_pay24 (k0_pay21 (rowOf 0 T)) cst (rowOf 1 T)
theorem out_0 (T : Vec F S2x1024 .f32) (g bt : Vec F S1024 .f32) (X : Vec F S256x1024 .f32) :
    k0_pay27 (k0_pay21 (rowOf 0 T)) cst (rowOf 1 T) g bt X = outB T g bt X 0 := rfl
theorem out_1 (T : Vec F S2x1024 .f32) (g bt : Vec F S1024 .f32) (X : Vec F S256x1024 .f32) :
    k0_pay29 (iv0 T) (k0_pay25 g) (k0_pay26 bt) X (k0_pay28 (k0_pay21 (rowOf 0 T)) cst) = outB T g bt X 1 := rfl
theorem out_2 (T : Vec F S2x1024 .f32) (g bt : Vec F S1024 .f32) (X : Vec F S256x1024 .f32) :
    k0_pay30 (mu0 T) (iv0 T) (k0_pay25 g) (k0_pay26 bt) X = outB T g bt X 2 := rfl
theorem out_3 (T : Vec F S2x1024 .f32) (g bt : Vec F S1024 .f32) (X : Vec F S256x1024 .f32) :
    k0_pay32 (iv0 T) (k0_pay25 g) (k0_pay26 bt) X (k0_pay31 (mu0 T)) = outB T g bt X 3 := rfl

theorem comb_next (x : Dev nD → Vec F S2048x1024 .f32) (c : Dev nD) (ch : Fin 2) (a b d : Fin 12) (ha : phN a = 0 ∧ chN a = ch ∧ jN a = 0)
    (hb : phN b = 0 ∧ chN b = ch ∧ jN b = 1) (hd : phN d = 0 ∧ chN d = ch ∧ jN d = 2) :
    comb (Acc x 0 ch c) (got x a c) (got x b c) (got x d c) = Acc x 1 ch c := by
  obtain ⟨a1, a2, a3⟩ := ha
  obtain ⟨b1, b2, b3⟩ := hb
  obtain ⟨d1, d2, d3⟩ := hd
  show comb (Acc x 0 ch c) (Acc x (phN a) (chN a) (part (jN a) c)) (Acc x (phN b) (chN b) (part (jN b) c)) (Acc x (phN d) (chN d) (part (jN d) c))
    = comb (Acc x 0 ch c) (Acc x 0 ch (part (jN 0) c)) (Acc x 0 ch (part (jN 1) c)) (Acc x 0 ch (part (jN 2) c))
  rw [a1, a2, a3, b1, b2, b3, d1, d2, d3]
  rfl
theorem comb_tot (x : Dev nD → Vec F S2048x1024 .f32) (c : Dev nD) (ch : Fin 2) (a b d : Fin 12) (ha : phN a = 1 ∧ chN a = ch ∧ jN a = 3)
    (hb : phN b = 1 ∧ chN b = ch ∧ jN b = 4) (hd : phN d = 1 ∧ chN d = ch ∧ jN d = 5) :
    comb (Acc x 1 ch c) (got x a c) (got x b c) (got x d c) = Tot x ch c := by
  obtain ⟨a1, a2, a3⟩ := ha
  obtain ⟨b1, b2, b3⟩ := hb
  obtain ⟨d1, d2, d3⟩ := hd
  show comb (Acc x 1 ch c) (Acc x (phN a) (chN a) (part (jN a) c)) (Acc x (phN b) (chN b) (part (jN b) c)) (Acc x (phN d) (chN d) (part (jN d) c))
    = comb (Acc x 1 ch c) (Acc x 1 ch (part (jN 6) c)) (Acc x 1 ch (part (jN 7) c)) (Acc x 1 ch (part (jN 8) c))
  rw [a1, a2, a3, b1, b2, b3, d1, d2, d3]
  rfl
theorem stored (a p q r : Vec F S2x1024 .f32) :
    (fun i => k0_pay19 (rdA a) (rdS p) (rdS q) (rdS r) (Shape.reshapeEquiv squeezes_S1x2x1024_S2x1024.numel_eq i)) = comb a p q r :=
  pay_comb a p q r _ _ _ _ _

/-! ## Shares of the sums -/

theorem sums_done (x : Dev nD → Vec F S2048x1024 .f32) (ch : Fin 2) (c : Dev nD) :
    accPart ch c (sumsOf ch (x c)) 8 ⊢ accAt ch c fullShare (Acc x 0 ch c) := accPart_done ch c _
theorem shares (x : Dev nD → Vec F S2048x1024 .f32) (ph ch : Fin 2) (c : Dev nD) (a b d : Fin 12) (ha : a.val % 3 = 0) (hb : b.val % 3 = 1) (hd : d.val % 3 = 2)
    (h : phN a = ph ∧ chN a = ch ∧ phN b = ph ∧ chN b = ch ∧ phN d = ph ∧ chN d = ch) :
    accAt ch c fullShare (Acc x ph ch c) ⊣⊢ iprop(sndP x a c ∗ sndP x b c ∗ sndP x d c) := by
  obtain ⟨a1, a2, b1, b2, d1, d2⟩ := h
  unfold sndP
  rw [a1, a2, b1, b2, d1, d2]
  exact accAt_split ch c _ a b d ha hb hd

theorem credit_acc (ch : Fin 2) : (accM ch).view.dmaCredit = N := by fin_cases ch <;> rfl

/-- One of the body's parts, on the memrefs and semaphores of the call; `M1` and `M2` are the two staged row vectors. -/
abbrev kp.{u} {β : Type u} (M1 : Memref sig .tc .vmem S1024 .f32) (h1 : M1.IsWhole) (M2 : Memref sig .tc .vmem S1024 .f32) (h2 : M2.IsWhole)
    (p : (arg0 : Memref sig .tc .hbm S2048x1024 .f32) → arg0.IsWhole → (arg1 : Memref sig .tc .vmem S1024 .f32) → arg1.IsWhole
      → (arg2 : Memref sig .tc .vmem S1024 .f32) → arg2.IsWhole → (arg3 : Memref sig .tc .hbm S2048x1024 .bf16) → arg3.IsWhole
      → (arg4 : Memref sig .tc .vmem S2048x1024 .f32) → arg4.IsWhole → (arg5 : Memref sig .tc .vmem S2048x1024 .bf16) → arg5.IsWhole
      → (arg6 : Memref sig .tc .vmem S2x2x1024 .f32) → arg6.IsWhole → (arg7 : Memref sig .tc .vmem S2x2x3x2x1024 .f32) → arg7.IsWhole
      → DmaSems sig S2x2x3 → DmaSems sig S2x2x3 → DmaSems sig S8 → DmaSems sig S8 → Sems sig S_ → β) : β :=
  p (Memref.whole main_arg0) (Memref.isWhole_whole _) M1 h1 M2 h2 (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8

/-- What device `c` shows of a program of its core. -/
abbrev go {α : Type} (c : Dev nD) (e : Prog (TpuEff nD τ sig (Elt F) Λ₀ .tc) α) (Φ : α → sProp 𝕄) : sProp 𝕄 :=
  wp frame (wpE (defs₀ (F := F)) 𝒱₀ (c : Thread nD τ) none) Set.univ e Φ

section Steps
variable {α : Type} {Φ : α → sProp (MT nD τ sig Unit (Elt F) ℕ UU ℕ)}
variable {k : PUnit → Prog (TpuEff nD τ sig (Elt F) Λ₀ .tc) α}
variable (x : Dev nD → Vec F S2048x1024 .f32) (K : Dev nD × Fin 26 → ℕ) (c : Dev nD)

theorem t_in (b : Fin 8) (f : Vec F S2048x1024 .f32)
    {hsrc : (xM b).view.WordExact} {hdst : (xbM b).view.WordExact} {hsem : DmaTarget.Typed (nD := nD) .hbm (.dma (inS b)) (.here (p := Proc.tc) (xbM b))} :
    inR b c f ⊢ iprop((inFl b c f -∗ wp frame (wpE (defs₀ (F := F)) 𝒱₀ (c : Thread nD τ) none) Set.univ (k ⟨⟩) Φ)
        -∗ wp frame (wpE (defs₀ (F := F)) 𝒱₀ (c : Thread nD τ) none) Set.univ
            (.op (.enqueueDma (xM b) (.here (p := Proc.tc) (xbM b)) (.dma (inS b)) hsrc hdst hsem) k) Φ) := step_in c b f

theorem t_out (b : Fin 8) (Y : Vec F S256x1024 .bf16)
    {hsrc : (obM b).view.WordExact} {hdst : (oM b).view.WordExact} {hsem : DmaTarget.Typed (nD := nD) .vmem (.dma (outS b)) (.here (p := Proc.tc) (oM b))} :
    outM b c Y ⊢ iprop((outFl b c Y -∗ wp frame (wpE (defs₀ (F := F)) 𝒱₀ (c : Thread nD τ) none) Set.univ (k ⟨⟩) Φ)
        -∗ wp frame (wpE (defs₀ (F := F)) 𝒱₀ (c : Thread nD τ) none) Set.univ
            (.op (.enqueueDma (obM b) (.here (p := Proc.tc) (oM b)) (.dma (outS b)) hsrc hdst hsem) k) Φ) := step_out c b Y

theorem t_wait_in (b : Fin 8) (f : Vec F S2048x1024 .f32) (o : ℕ) (ho : o ≤ 18)
    {hsrc : (xM b).view.WordExact} {hdst : (xbM b).view.WordExact} :
    iprop(levAts L lv ∗ ow o c ∗ inFl b c f)
      ⊢ iprop(((ow o c ∗ inZ b c f ∗ xbAt b c (blk b f)) -∗ wp frame (wpE (defs₀ (F := F)) 𝒱₀ (c : Thread nD τ) none) Set.univ (k ⟨⟩) Φ)
        -∗ wp frame (wpE (defs₀ (F := F)) 𝒱₀ (c : Thread nD τ) none) Set.univ (.op (.waitDma2 (inS b) (xM b) (xbM b) hsrc hdst) k) Φ) := by
  iintro H Hk
  iapply (step_wait_in c b f o ho (credit_in b)) $$ H
  iintro ⟨HO, Hv, Hb, Hx⟩
  iapply Hk
  unfold inZ
  iframe

theorem t_wait_out (b : Fin 8) (Y : Vec F S256x1024 .bf16)
    {hsrc : (obM b).view.WordExact} {hdst : (oM b).view.WordExact} :
    iprop(levAts L lv ∗ ow 0 c ∗ outFl b c Y)
      ⊢ iprop(((ow 0 c ∗ outZ b c Y) -∗ wp frame (wpE (defs₀ (F := F)) 𝒱₀ (c : Thread nD τ) none) Set.univ (k ⟨⟩) Φ)
        -∗ wp frame (wpE (defs₀ (F := F)) 𝒱₀ (c : Thread nD τ) none) Set.univ (.op (.waitDma2 (outS b) (obM b) (oM b) hsrc hdst) k) Φ) := by
  iintro H Hk
  iapply (step_wait_out c b Y (credit_out b)) $$ H
  iintro ⟨HO, Hv, Hb, Hx⟩
  iapply Hk
  unfold outZ
  iframe

theorem t_bar (dv : Dev nD) (j : Fin 6) (hdv : dv = part j c) (o : ℕ) (ho : o + j.val = 23) (a : ℕ) (ha : a = 1) :
    iprop(records (Acc x) K ∗ ow (o + 1) c ∗ barR (F := F) j c)
      ⊢ iprop((ow o c -∗ wp frame (wpE (defs₀ (F := F)) 𝒱₀ (c : Thread nD τ) none) Set.univ (k ⟨⟩) Φ)
        -∗ wp frame (wpE (defs₀ (F := F)) 𝒱₀ (c : Thread nD τ) none) Set.univ (.op (.semSignal (dv, .tc) barS a) k) Φ) :=
  step_bar (Acc x) K c dv j hdv o ho a ha

theorem t_exit (dv : Dev nD) (j : Fin 6) (hdv : dv = part j c) (o : ℕ) (ho : o + j.val = 5) (a : ℕ) (ha : a = 1) :
    iprop(records (Acc x) K ∗ ow (o + 1) c ∗ exitR (F := F) j c)
      ⊢ iprop((ow o c -∗ wp frame (wpE (defs₀ (F := F)) 𝒱₀ (c : Thread nD τ) none) Set.univ (k ⟨⟩) Φ)
        -∗ wp frame (wpE (defs₀ (F := F)) 𝒱₀ (c : Thread nD τ) none) Set.univ (.op (.semSignal (dv, .tc) exitS a) k) Φ) :=
  step_exit (Acc x) K c dv j hdv o ho a ha

theorem t_send (dv : Dev nD) (n m : Fin 12) (ch : Fin 2) (hm : mir n = m) (hc : chN n = ch) (hdv : dv = pd n c) (o : ℕ) (ho : o + n.val = 17)
    {hsc : (slotM m : Memref sig (Dev.tc dv : Thread nD τ).2.kind .vmem S2x1024 .f32).view.ref.isScScratch = false}
    {hsrc : (accM ch).view.WordExact} {hdst : (slotM m).view.WordExact}
    {hsem : DmaTarget.Typed .vmem (.dma (recvS m)) (.remote (Dev.tc dv : Thread nD τ) (slotM m) (.dma (sendS n)) hsc)} :
    iprop(records (Acc x) K ∗ ow (o + 1) c ∗ sndP x n c ∗ land (F := F) n c ∗ sndR (F := F) n c)
      ⊢ iprop(((sndW (F := F) n c ∗ ow o c) -∗ wp frame (wpE (defs₀ (F := F)) 𝒱₀ (c : Thread nD τ) none) Set.univ (k ⟨⟩) Φ)
        -∗ wp frame (wpE (defs₀ (F := F)) 𝒱₀ (c : Thread nD τ) none) Set.univ
          (.op (.enqueueDma (accM ch) (.remote (Dev.tc dv : Thread nD τ) (slotM m) (.dma (sendS n)) hsc) (.dma (recvS m)) hsrc hdst hsem) k) Φ) := by
  subst hm hc
  unfold sndR sndP sndW
  iintro ⟨Hr, HO, Ha, Hl, Hs, Hd, Hp⟩ Hk
  iapply (step_send (Acc x) K c dv n hdv o ho) $$ [$Hr $HO $Ha $Hl $Hs $Hd]
  iintro ⟨Hc, HO⟩
  iapply Hk
  iframe

theorem t_wait_bar (a : ℕ) (ha : a = 6) :
    iprop(records (Acc x) K ∗ levAts L lv ∗ ow 18 c ∗ barW (F := F) c)
      ⊢ iprop(((ow 18 c ∗ rest (barCell c)
              ∗ land (F := F) 0 c ∗ land (F := F) 1 c ∗ land (F := F) 2 c ∗ land (F := F) 3 c ∗ land (F := F) 4 c ∗ land (F := F) 5 c
              ∗ land (F := F) 6 c ∗ land (F := F) 7 c ∗ land (F := F) 8 c ∗ land (F := F) 9 c ∗ land (F := F) 10 c ∗ land (F := F) 11 c)
            -∗ wp frame (wpE (defs₀ (F := F)) 𝒱₀ (c : Thread nD τ) none) Set.univ (k ⟨⟩) Φ)
          -∗ wp frame (wpE (defs₀ (F := F)) 𝒱₀ (c : Thread nD τ) none) Set.univ (.op (.semWait barS a) k) Φ) :=
  step_wait_bar (Acc x) K c a ha

theorem t_wait_exit (a : ℕ) (ha : a = 6) :
    iprop(records (Acc x) K ∗ levAts L lv ∗ ow 0 c ∗ exitW (F := F) c)
      ⊢ iprop(((ow 0 c ∗ rest (exitCell c)) -∗ wp frame (wpE (defs₀ (F := F)) 𝒱₀ (c : Thread nD τ) none) Set.univ (k ⟨⟩) Φ)
          -∗ wp frame (wpE (defs₀ (F := F)) 𝒱₀ (c : Thread nD τ) none) Set.univ (.op (.semWait exitS a) k) Φ) :=
  step_wait_exit (Acc x) K c a ha

theorem t_wait_send (n : Fin 12) (ch : Fin 2) (o : ℕ) (ho : o ≤ 18)
    {sp : Space} {s : Shape} {e : EltTy} {src : Memref sig .tc sp s e}
    {hsrc : src.view.WordExact} {hdst : (accM ch).view.WordExact} :
    iprop(records (Acc x) K ∗ levAts L lv ∗ ow o c ∗ sndW (F := F) n c)
      ⊢ iprop(((ow o c ∗ rest (sendCell n c) ∗ sndP x n c) -∗ wp frame (wpE (defs₀ (F := F)) 𝒱₀ (c : Thread nD τ) none) Set.univ (k ⟨⟩) Φ)
          -∗ wp frame (wpE (defs₀ (F := F)) 𝒱₀ (c : Thread nD τ) none) Set.univ (.op (.waitDma2 (sendS n) src (accM ch) hsrc hdst) k) Φ) :=
  step_wait_send (Acc x) K c n o ho (credit_acc ch)

theorem t_wait_recv (n : Fin 12) (o : ℕ) (ho : o + 3 * (n.val / 3) + 3 ≤ 18)
    {sp : Space} {s : Shape} {e : EltTy} {src : Memref sig .tc sp s e}
    {hsrc : src.view.WordExact} {hdst : (slotM n).view.WordExact} :
    iprop(records (Acc x) K ∗ levAts L lv ∗ ow o c ∗ rcvW (F := F) n c)
      ⊢ iprop(((ow o c ∗ rest (recvCell n c) ∗ rcvP x n c) -∗ wp frame (wpE (defs₀ (F := F)) 𝒱₀ (c : Thread nD τ) none) Set.univ (k ⟨⟩) Φ)
          -∗ wp frame (wpE (defs₀ (F := F)) 𝒱₀ (c : Thread nD τ) none) Set.univ (.op (.waitDma2 (recvS n) src (slotM n) hsrc hdst) k) Φ) :=
  step_wait_recv (Acc x) K c n o ho (credit_slot n)

/-! ## Loads and stores -/

theorem t_stat (ch : Fin 2) (p : Fin 8) (n m : ℕ) (hn : p.val = n) (hm : p.val + 1 = m) (w : Vec F S1x1x256 .f32)
    (hw : w = statP ⟨p.val % 2, by omega⟩ (blk ⟨4 * ch.val + p.val / 2, by omega⟩ (x c)))
    {hl : (Memref.whole cc0_scratch2).view.LoadsAt (statR ch p).toLoadRect} {hx} {hm'} :
    iprop(accPart ch c (sumsOf ch (x c)) n)
      ⊢ iprop((accPart ch c (sumsOf ch (x c)) m -∗ wp frame (wpE (defs₀ (F := F)) 𝒱₀ (c : Thread nD τ) none) Set.univ (k ⟨⟩) Φ)
        -∗ wp frame (wpE (defs₀ (F := F)) 𝒱₀ (c : Thread nD τ) none) Set.univ
            (.op (.load (Memref.whole cc0_scratch2) (statR ch p).toLoadRect hl) fun _ =>
              .op (.store (Memref.whole cc0_scratch2) (statR ch p) w Finset.univ hx hm') k) Φ) := by
  subst hn hm
  exact step_stat c ch p (x c) w hw

/-- The store of a half of the sums, after the load before it. -/
theorem t_set (ch : Fin 2) (X Y : Vec F S2x1024 .f32) (a p q r : Vec F S2x1024 .f32) (hY : comb a p q r = Y) (w : Vec F S1x2x1024 .f32)
    (hw : w = k0_pay19 (rdA a) (rdS p) (rdS q) (rdS r))
    {hl : (Memref.whole cc0_scratch2).view.LoadsAt (chR ch).toLoadRect} {hx} {hm} :
    iprop(accAt ch c fullShare X)
      ⊢ iprop((accAt ch c fullShare Y -∗ wp frame (wpE (defs₀ (F := F)) 𝒱₀ (c : Thread nD τ) none) Set.univ (k ⟨⟩) Φ)
        -∗ wp frame (wpE (defs₀ (F := F)) 𝒱₀ (c : Thread nD τ) none) Set.univ
            (.op (.load (Memref.whole cc0_scratch2) (chR ch).toLoadRect hl) fun _ =>
              .op (.store (Memref.whole cc0_scratch2) (chR ch) w Finset.univ hx hm) k) Φ) := by
  subst hY hw
  exact step_store_acc c ch X _ _ (stored a p q r)

theorem t_acc (ch : Fin 2) (q : PosShare TreeShare) (X : Vec F S2x1024 .f32)
    {hl : (Memref.whole cc0_scratch2).view.LoadsAt (chR ch).toLoadRect} {k : Vec F S1x2x1024 .f32 → Prog (TpuEff nD τ sig (Elt F) Λ₀ .tc) α} :
    iprop(accAt ch c q X)
      ⊢ iprop((accAt ch c q X -∗ wp frame (wpE (defs₀ (F := F)) 𝒱₀ (c : Thread nD τ) none) Set.univ (k (rdA X)) Φ)
        -∗ wp frame (wpE (defs₀ (F := F)) 𝒱₀ (c : Thread nD τ) none) Set.univ (.op (.load (Memref.whole cc0_scratch2) (chR ch).toLoadRect hl) k) Φ) :=
  step_load_acc c ch q X

theorem t_slot (n : Fin 12)
    {hl : (Memref.whole cc0_scratch3).view.LoadsAt (slR n).toLoadRect} {k : Vec F S1x1x1x2x1024 .f32 → Prog (TpuEff nD τ sig (Elt F) Λ₀ .tc) α} :
    iprop(rcvP x n c)
      ⊢ iprop((rcvP x n c -∗ wp frame (wpE (defs₀ (F := F)) 𝒱₀ (c : Thread nD τ) none) Set.univ (k (rdS (got x n c))) Φ)
        -∗ wp frame (wpE (defs₀ (F := F)) 𝒱₀ (c : Thread nD τ) none) Set.univ (.op (.load (Memref.whole cc0_scratch3) (slR n).toLoadRect hl) k) Φ) :=
  step_load_slot c n _

/-- A load of a block of the input's buffer. -/
theorem t_xb (b : Fin 8) (X : Vec F S256x1024 .f32)
    {hl : (Memref.whole cc0_scratch0).view.LoadsAt (Rect.unit (s := S2048x1024) (offB b) S256x1024.size (inbB b)).toLoadRect}
    {k : Vec F S256x1024 .f32 → Prog (TpuEff nD τ sig (Elt F) Λ₀ .tc) α} :
    iprop(xbAt b c X)
      ⊢ iprop((xbAt b c X -∗ wp frame (wpE (defs₀ (F := F)) 𝒱₀ (c : Thread nD τ) none) Set.univ (k X) Φ)
        -∗ wp frame (wpE (defs₀ (F := F)) 𝒱₀ (c : Thread nD τ) none) Set.univ
          (.op (.load (Memref.whole cc0_scratch0) (Rect.unit (s := S2048x1024) (offB b) S256x1024.size (inbB b)).toLoadRect hl) k) Φ) :=
  load_slice c (Memref.whole cc0_scratch0) (Rect.unit (s := S2048x1024) (offB b) S256x1024.size (inbB b)) (fun _ => rfl) fullShare X

/-- The store of a block of the output's buffer, after the load before it. -/
theorem t_ob (b : Fin 8) (w Y : Vec F S256x1024 .bf16) (hw : w = Y)
    {hl : (Memref.whole cc0_scratch1).view.LoadsAt (Rect.unit (s := S2048x1024) (offB b) S256x1024.size (inbB b)).toLoadRect} {hx} {hm} :
    iprop(outR (F := F) b c)
      ⊢ iprop((outM b c Y -∗ wp frame (wpE (defs₀ (F := F)) 𝒱₀ (c : Thread nD τ) none) Set.univ (k ⟨⟩) Φ)
        -∗ wp frame (wpE (defs₀ (F := F)) 𝒱₀ (c : Thread nD τ) none) Set.univ
          (.op (.load (Memref.whole cc0_scratch1) (Rect.unit (s := S2048x1024) (offB b) S256x1024.size (inbB b)).toLoadRect hl) fun _ =>
            .op (.store (Memref.whole cc0_scratch1) (Rect.unit (s := S2048x1024) (offB b) S256x1024.size (inbB b)) w Finset.univ hx hm) k) Φ) := by
  subst hw
  unfold outR outM obAny
  iintro ⟨⟨%f, H⟩, Ho, Hv⟩ Hk
  iapply (wp_load_rect (defs := defs₀ (F := F)) 𝒱₀ (c : Thread nD τ) none Set.univ (m := Memref.whole cc0_scratch1)
    (r := Rect.unit (s := S2048x1024) (offB b) S256x1024.size (inbB b)) (S := (obM b).view.set) subset_rfl) $$ H
  iintro H
  iapply (store_slice c (Memref.whole cc0_scratch1) (Rect.unit (s := S2048x1024) (offB b) S256x1024.size (inbB b)) (fun _ => rfl) f w) $$ H
  iintro H
  iapply Hk
  unfold obAt
  iframe

/-- A load of a staged row vector. -/
theorem t_g (M : Memref sig .tc .vmem S1024 .f32) (g : Vec F S1024 .f32)
    {hl : M.view.LoadsAt (Rect.unit (s := S1024) ![0] S1024.size inb_S1024_S1024_0).toLoadRect}
    {k : Vec F S1024 .f32 → Prog (TpuEff nD τ sig (Elt F) Λ₀ .tc) α} :
    iprop(gAt M c g)
      ⊢ iprop((gAt M c g -∗ wp frame (wpE (defs₀ (F := F)) 𝒱₀ (c : Thread nD τ) none) Set.univ (k g) Φ)
        -∗ wp frame (wpE (defs₀ (F := F)) 𝒱₀ (c : Thread nD τ) none) Set.univ
          (.op (.load M (Rect.unit (s := S1024) ![0] S1024.size inb_S1024_S1024_0).toLoadRect hl) k) Φ) := by
  have hi : ∀ y : S1024.Idx, (Rect.unit (s := S1024) ![0] S1024.size inb_S1024_S1024_0).emb y = y := fun y => by
    funext a; apply Fin.ext
    match a with
    | ⟨0, _⟩ => show 0 + 1 * (y 0).val = (y 0).val; omega
  have hr : (M.access (Rect.unit (s := S1024) ![0] S1024.size inb_S1024_S1024_0)).read (Elt F) (M.view.rep g) = g := by
    funext y
    have h0 : M.view.read (Elt F) (M.view.rep g) y = g y := by rw [View.read_rep]
    rw [← h0]
    exact congrArg (M.view.read (Elt F) (M.view.rep g)) (hi y)
  have hs : (M.access (Rect.unit (s := S1024) ![0] S1024.size inb_S1024_S1024_0)).set ⊆ M.view.set := by
    intro z hz
    obtain ⟨y, -, rfl⟩ := Finset.mem_map.1 hz
    exact View.emb_mem_set M.view ((Rect.unit (s := S1024) ![0] S1024.size inb_S1024_S1024_0).emb y)
  unfold gAt
  iintro H Hk
  iapply (wp_load_rect (defs := defs₀ (F := F)) 𝒱₀ (c : Thread nD τ) none Set.univ (m := M)
    (r := Rect.unit (s := S1024) ![0] S1024.size inb_S1024_S1024_0) (S := M.view.set) hs) $$ H
  rw [hr]
  iexact Hk

end Steps

end Cert.Norm

end
-- ==== Proof.Norm.PartA.lean ====
/-
# The parts of the body: A

The copies in, the signals, the sums of the first half and its first send.
One lemma per part of the printed body, each from the steps of `Take`.
-/
module

public import proofs.«01_k».proof.Proof.Norm.Take

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

theorem run1 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : (Σ' (_ : Dev nD) (_ : BitVec 32) (_ : BitVec 32) (_ : BitVec 32) (_ : BitVec 32) (_ : BitVec 32), BitVec 32) → Prog (TpuEff nD τ sig (Elt F) Λ₀ .tc) α} :
    iprop(∀ (a b d e f h : BitVec 32), go c (kk ⟨c, a, b, d, e, f, h⟩) Φ) ⊢ go c ((kp M1 h1 M2 h2 (k0_part1 (F := F))) >>= kk) Φ := by
  simp only [go, kp, k0_part1_eq_skeleton, k0_part1_skel, semSignalWord, semWaitWord, Prog.lift, Prog.bind_op, Prog.bind_ret, Prog.pure_eq_ret, wp_deviceId]
  iintro Hk
  iapply Hk

theorem run2 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v2 : BitVec 32) (v20 : BitVec 32) (v35 : BitVec 32) (v36 : BitVec 32) (c0 : BitVec 32)
    {α : Type} {Φ : α → sProp 𝕄} {kk : (Σ' (_ : BitVec 32) (_ : BitVec 32) (_ : BitVec 32) (_ : BitVec 32) (_ : BitVec 32) (_ : BitVec 1) (_ : BitVec 1), BitVec 32) → Prog (TpuEff nD τ sig (Elt F) Λ₀ .tc) α} :
    iprop(∀ r, go c (kk r) Φ) ⊢ go c (((kp M1 h1 M2 h2 (k0_part2 (F := F))) v2 v20 v35 v36 c0) >>= kk) Φ := by
  simp only [go, kp, k0_part2_eq_skeleton, k0_part2_skel, semSignalWord, semWaitWord, Prog.lift, Prog.bind_op, Prog.bind_ret, Prog.pure_eq_ret]
  iintro Hk
  iapply Hk

theorem run3 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v2 : BitVec 32) (v70 : BitVec 32) (v71 : BitVec 32) (v72 : BitVec 1) (v73 : BitVec 1) (c0 : BitVec 32)
    {α : Type} {Φ : α → sProp 𝕄} {kk : (Σ' (_ : BitVec 32), BitVec 32) → Prog (TpuEff nD τ sig (Elt F) Λ₀ .tc) α} :
    iprop(inR 0 c (x c) ∗ inR 1 c (x c) ∗ inR 2 c (x c))
    ⊢ iprop((∀ r, (inFl 0 c (x c) ∗ inFl 1 c (x c) ∗ inFl 2 c (x c))
        -∗ go c (kk r) Φ)
      -∗ go c (((kp M1 h1 M2 h2 (k0_part3 (F := F))) v2 v70 v71 v72 v73 c0) >>= kk) Φ) := by
  simp only [go, kp, k0_part3_eq_skeleton, k0_part3_skel, semSignalWord, semWaitWord, Prog.lift, Prog.bind_op, Prog.bind_ret, Prog.pure_eq_ret]
  iintro ⟨I0, I1, I2⟩ Hk
  iapply (t_in c 0 (x c)) $$ I0
  iintro I0
  iapply (t_in c 1 (x c)) $$ I1
  iintro I1
  iapply (t_in c 2 (x c)) $$ I2
  iintro I2
  iapply Hk
  iframe

theorem run4 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v32 : BitVec 32) (v44 : BitVec 32) (v56 : BitVec 32)
    {α : Type} {Φ : α → sProp 𝕄} {kk : (Σ' (_ : Sems sig S_) (_ : BitVec 32), BitVec 32) → Prog (TpuEff nD τ sig (Elt F) Λ₀ .tc) α} :
    iprop(records (Acc x) K ∗ ow 24 c ∗ barR (F := F) 0 c ∗ barR (F := F) 1 c ∗ inR 3 c (x c) ∗ inR 4 c (x c) ∗ inR 5 c (x c)
       ∗ inR 6 c (x c) ∗ inR 7 c (x c))
    ⊢ iprop((∀ (a b : BitVec 32), (ow 22 c ∗ inFl 3 c (x c) ∗ inFl 4 c (x c) ∗ inFl 5 c (x c) ∗ inFl 6 c (x c) ∗ inFl 7 c (x c))
        -∗ go c (kk ⟨SemArray.scalar (sig.barrier 0 rfl), a, b⟩) Φ)
      -∗ go c (((kp M1 h1 M2 h2 (k0_part4 (F := F))) c v32 v44 v56) >>= kk) Φ) := by
  simp only [go, kp, k0_part4_eq_skeleton, k0_part4_skel, semSignalWord, semWaitWord, Prog.lift, Prog.bind_op, Prog.bind_ret, Prog.pure_eq_ret]
  iintro ⟨#Hrec, HO, J0, J1, I3, I4, I5, I6, I7⟩ Hk
  iapply (t_in c 3 (x c)) $$ I3
  iintro I3
  iapply (t_in c 4 (x c)) $$ I4
  iintro I4
  iapply (t_in c 5 (x c)) $$ I5
  iintro I5
  iapply (t_in c 6 (x c)) $$ I6
  iintro I6
  iapply (t_in c 7 (x c)) $$ I7
  iintro I7
  iapply (t_bar x K c _ 0 (dev1 c) 23 rfl 1 rfl) $$ [$Hrec $HO $J0]
  iintro HO
  iapply (t_bar x K c _ 1 (dev2 c) 22 rfl 1 rfl) $$ [$Hrec $HO $J1]
  iintro HO
  iapply Hk
  iframe

theorem run5 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v67 : BitVec 32) (v78 : BitVec 32) (v89 : BitVec 32) (v127 : BitVec 32) (c0 : BitVec 32)
    {α : Type} {Φ : α → sProp 𝕄} {kk : PUnit → Prog (TpuEff nD τ sig (Elt F) Λ₀ .tc) α} :
    iprop(records (Acc x) K ∗ levAts L lv ∗ ow 22 c ∗ barR (F := F) 2 c ∗ barR (F := F) 3 c ∗ barR (F := F) 4 c
       ∗ barR (F := F) 5 c ∗ inFl 0 c (x c) ∗ accPart 0 c (sumsOf 0 (x c)) 0)
    ⊢ iprop(((ow 18 c ∗ inZ 0 c (x c) ∗ xbAt 0 c (blk 0 (x c)) ∗ accPart 0 c (sumsOf 0 (x c)) 2)
        -∗ go c (kk ⟨⟩) Φ)
      -∗ go c (((kp M1 h1 M2 h2 (k0_part5 (F := F))) c v67 v78 v89 (SemArray.scalar (sig.barrier 0 rfl)) v127 c0) >>= kk) Φ) := by
  simp only [go, kp, k0_part5_eq_skeleton, k0_part5_skel, semSignalWord, semWaitWord, Prog.lift, Prog.bind_op, Prog.bind_ret, Prog.pure_eq_ret]
  iintro ⟨#Hrec, #Hlev, HO, J2, J3, J4, J5, I0, A0⟩ Hk
  iapply (t_bar x K c _ 2 (dev3 c) 21 rfl 1 rfl) $$ [$Hrec $HO $J2]
  iintro HO
  iapply (t_bar x K c _ 3 (dev4 c) 20 rfl 1 rfl) $$ [$Hrec $HO $J3]
  iintro HO
  iapply (t_bar x K c _ 4 (dev5 c) 19 rfl 1 rfl) $$ [$Hrec $HO $J4]
  iintro HO
  iapply (t_bar x K c _ 5 (dev6 c) 18 rfl 1 rfl) $$ [$Hrec $HO $J5]
  iintro HO
  iapply (t_wait_in c 0 (x c) 18 (by decide)) $$ [$Hlev $HO $I0]
  iintro ⟨HO, I0, XB0⟩
  iapply (t_xb c 0 (blk 0 (x c))) $$ XB0
  iintro XB0
  iapply (t_stat x c 0 0 0 1 rfl rfl (k0_pay1 (blk 0 (x c))) rfl) $$ A0
  iintro A0
  iapply (t_stat x c 0 1 1 2 rfl rfl (k0_pay2 (blk 0 (x c))) rfl) $$ A0
  iintro A0
  iapply Hk
  iframe

theorem run6 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : PUnit → Prog (TpuEff nD τ sig (Elt F) Λ₀ .tc) α} :
    iprop(levAts L lv ∗ ow 18 c ∗ inFl 1 c (x c) ∗ inFl 2 c (x c) ∗ accPart 0 c (sumsOf 0 (x c)) 2)
    ⊢ iprop(((ow 18 c ∗ inZ 1 c (x c) ∗ inZ 2 c (x c) ∗ xbAt 1 c (blk 1 (x c)) ∗ xbAt 2 c (blk 2 (x c))
       ∗ accPart 0 c (sumsOf 0 (x c)) 6)
        -∗ go c (kk ⟨⟩) Φ)
      -∗ go c ((kp M1 h1 M2 h2 (k0_part6 (F := F))) >>= kk) Φ) := by
  simp only [go, kp, k0_part6_eq_skeleton, k0_part6_skel, semSignalWord, semWaitWord, Prog.lift, Prog.bind_op, Prog.bind_ret, Prog.pure_eq_ret]
  iintro ⟨#Hlev, HO, I1, I2, A0⟩ Hk
  iapply (t_wait_in c 1 (x c) 18 (by decide)) $$ [$Hlev $HO $I1]
  iintro ⟨HO, I1, XB1⟩
  iapply (t_xb c 1 (blk 1 (x c))) $$ XB1
  iintro XB1
  iapply (t_stat x c 0 2 2 3 rfl rfl (k0_pay3 (blk 1 (x c))) rfl) $$ A0
  iintro A0
  iapply (t_stat x c 0 3 3 4 rfl rfl (k0_pay4 (blk 1 (x c))) rfl) $$ A0
  iintro A0
  iapply (t_wait_in c 2 (x c) 18 (by decide)) $$ [$Hlev $HO $I2]
  iintro ⟨HO, I2, XB2⟩
  iapply (t_xb c 2 (blk 2 (x c))) $$ XB2
  iintro XB2
  iapply (t_stat x c 0 4 4 5 rfl rfl (k0_pay5 (blk 2 (x c))) rfl) $$ A0
  iintro A0
  iapply (t_stat x c 0 5 5 6 rfl rfl (k0_pay6 (blk 2 (x c))) rfl) $$ A0
  iintro A0
  iapply Hk
  iframe

theorem run7 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v32 : BitVec 32)
    {α : Type} {Φ : α → sProp 𝕄} {kk : PUnit → Prog (TpuEff nD τ sig (Elt F) Λ₀ .tc) α} :
    iprop(records (Acc x) K ∗ levAts L lv ∗ ow 18 c ∗ barW (F := F) c ∗ inFl 3 c (x c) ∗ accPart 0 c (sumsOf 0 (x c)) 6
       ∗ sndR (F := F) 0 c)
    ⊢ iprop(((ow 17 c ∗ rest (barCell c) ∗ inZ 3 c (x c) ∗ xbAt 3 c (blk 3 (x c)) ∗ sndP x 1 c ∗ sndP x 2 c ∗ land (F := F) 1 c
       ∗ land (F := F) 2 c ∗ land (F := F) 3 c ∗ land (F := F) 4 c ∗ land (F := F) 5 c ∗ land (F := F) 6 c ∗ land (F := F) 7 c
       ∗ land (F := F) 8 c ∗ land (F := F) 9 c ∗ land (F := F) 10 c ∗ land (F := F) 11 c ∗ sndW (F := F) 0 c)
        -∗ go c (kk ⟨⟩) Φ)
      -∗ go c (((kp M1 h1 M2 h2 (k0_part7 (F := F))) c v32 (SemArray.scalar (sig.barrier 0 rfl))) >>= kk) Φ) := by
  simp only [go, kp, k0_part7_eq_skeleton, k0_part7_skel, semSignalWord, semWaitWord, Prog.lift, Prog.bind_op, Prog.bind_ret, Prog.pure_eq_ret]
  iintro ⟨#Hrec, #Hlev, HO, W, I3, A0, S0⟩ Hk
  iapply (t_wait_in c 3 (x c) 18 (by decide)) $$ [$Hlev $HO $I3]
  iintro ⟨HO, I3, XB3⟩
  iapply (t_xb c 3 (blk 3 (x c))) $$ XB3
  iintro XB3
  iapply (t_stat x c 0 6 6 7 rfl rfl (k0_pay7 (blk 3 (x c))) rfl) $$ A0
  iintro A0
  iapply (t_stat x c 0 7 7 8 rfl rfl (k0_pay8 (blk 3 (x c))) rfl) $$ A0
  iintro A0
  ihave A0 := (sums_done x 0 c) $$ A0
  iapply (t_wait_bar x K c 6 rfl) $$ [$Hrec $Hlev $HO $W]
  iintro ⟨HO, W, L0, L1, L2, L3, L4, L5, L6, L7, L8, L9, L10, L11⟩
  ihave ⟨P0, P1, P2⟩ := (shares x 0 0 c 0 1 2 rfl rfl rfl (by decide)).1 $$ A0
  iapply (t_send x K c _ 0 2 0 rfl rfl (dev7 c) 17 rfl) $$ [$Hrec $HO $P0 $L0 $S0]
  iintro ⟨S0, HO⟩
  iapply Hk
  iframe

end Cert.Norm

end
-- ==== Proof.Norm.PartB.lean ====
/-
# The parts of the body: B

The sends of the first phase, the sums of the second half, and the first phase over the first half.
One lemma per part of the printed body, each from the steps of `Take`.
-/
module

public import proofs.«01_k».proof.Proof.Norm.Take

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

theorem run8 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v44 : BitVec 32) (v56 : BitVec 32)
    {α : Type} {Φ : α → sProp 𝕄} {kk : PUnit → Prog (TpuEff nD τ sig (Elt F) Λ₀ .tc) α} :
    iprop(records (Acc x) K ∗ ow 17 c ∗ sndP x 1 c ∗ sndP x 2 c ∗ land (F := F) 1 c ∗ land (F := F) 2 c ∗ sndR (F := F) 1 c
       ∗ sndR (F := F) 2 c)
    ⊢ iprop(((ow 15 c ∗ sndW (F := F) 1 c ∗ sndW (F := F) 2 c)
        -∗ go c (kk ⟨⟩) Φ)
      -∗ go c (((kp M1 h1 M2 h2 (k0_part8 (F := F))) c v44 v56) >>= kk) Φ) := by
  simp only [go, kp, k0_part8_eq_skeleton, k0_part8_skel, semSignalWord, semWaitWord, Prog.lift, Prog.bind_op, Prog.bind_ret, Prog.pure_eq_ret]
  iintro ⟨#Hrec, HO, P1, P2, L1, L2, S1, S2⟩ Hk
  iapply (t_send x K c _ 1 1 0 rfl rfl (dev8 c) 16 rfl) $$ [$Hrec $HO $P1 $L1 $S1]
  iintro ⟨S1, HO⟩
  iapply (t_send x K c _ 2 0 0 rfl rfl (dev9 c) 15 rfl) $$ [$Hrec $HO $P2 $L2 $S2]
  iintro ⟨S2, HO⟩
  iapply Hk
  iframe

theorem run9 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : PUnit → Prog (TpuEff nD τ sig (Elt F) Λ₀ .tc) α} :
    iprop(levAts L lv ∗ ow 15 c ∗ inFl 4 c (x c) ∗ inFl 5 c (x c) ∗ accPart 1 c (sumsOf 1 (x c)) 0)
    ⊢ iprop(((ow 15 c ∗ inZ 4 c (x c) ∗ inZ 5 c (x c) ∗ xbAt 4 c (blk 4 (x c)) ∗ xbAt 5 c (blk 5 (x c))
       ∗ accPart 1 c (sumsOf 1 (x c)) 4)
        -∗ go c (kk ⟨⟩) Φ)
      -∗ go c ((kp M1 h1 M2 h2 (k0_part9 (F := F))) >>= kk) Φ) := by
  simp only [go, kp, k0_part9_eq_skeleton, k0_part9_skel, semSignalWord, semWaitWord, Prog.lift, Prog.bind_op, Prog.bind_ret, Prog.pure_eq_ret]
  iintro ⟨#Hlev, HO, I4, I5, A1⟩ Hk
  iapply (t_wait_in c 4 (x c) 15 (by decide)) $$ [$Hlev $HO $I4]
  iintro ⟨HO, I4, XB4⟩
  iapply (t_xb c 4 (blk 4 (x c))) $$ XB4
  iintro XB4
  iapply (t_stat x c 1 0 0 1 rfl rfl (k0_pay9 (blk 4 (x c))) rfl) $$ A1
  iintro A1
  iapply (t_stat x c 1 1 1 2 rfl rfl (k0_pay10 (blk 4 (x c))) rfl) $$ A1
  iintro A1
  iapply (t_wait_in c 5 (x c) 15 (by decide)) $$ [$Hlev $HO $I5]
  iintro ⟨HO, I5, XB5⟩
  iapply (t_xb c 5 (blk 5 (x c))) $$ XB5
  iintro XB5
  iapply (t_stat x c 1 2 2 3 rfl rfl (k0_pay11 (blk 5 (x c))) rfl) $$ A1
  iintro A1
  iapply (t_stat x c 1 3 3 4 rfl rfl (k0_pay12 (blk 5 (x c))) rfl) $$ A1
  iintro A1
  iapply Hk
  iframe

theorem run10 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : PUnit → Prog (TpuEff nD τ sig (Elt F) Λ₀ .tc) α} :
    iprop(levAts L lv ∗ ow 15 c ∗ inFl 6 c (x c) ∗ inFl 7 c (x c) ∗ accPart 1 c (sumsOf 1 (x c)) 4)
    ⊢ iprop(((ow 15 c ∗ inZ 6 c (x c) ∗ inZ 7 c (x c) ∗ xbAt 6 c (blk 6 (x c)) ∗ xbAt 7 c (blk 7 (x c))
       ∗ accAt 1 c fullShare (Acc x 0 1 c))
        -∗ go c (kk ⟨⟩) Φ)
      -∗ go c ((kp M1 h1 M2 h2 (k0_part10 (F := F))) >>= kk) Φ) := by
  simp only [go, kp, k0_part10_eq_skeleton, k0_part10_skel, semSignalWord, semWaitWord, Prog.lift, Prog.bind_op, Prog.bind_ret, Prog.pure_eq_ret]
  iintro ⟨#Hlev, HO, I6, I7, A1⟩ Hk
  iapply (t_wait_in c 6 (x c) 15 (by decide)) $$ [$Hlev $HO $I6]
  iintro ⟨HO, I6, XB6⟩
  iapply (t_xb c 6 (blk 6 (x c))) $$ XB6
  iintro XB6
  iapply (t_stat x c 1 4 4 5 rfl rfl (k0_pay13 (blk 6 (x c))) rfl) $$ A1
  iintro A1
  iapply (t_stat x c 1 5 5 6 rfl rfl (k0_pay14 (blk 6 (x c))) rfl) $$ A1
  iintro A1
  iapply (t_wait_in c 7 (x c) 15 (by decide)) $$ [$Hlev $HO $I7]
  iintro ⟨HO, I7, XB7⟩
  iapply (t_xb c 7 (blk 7 (x c))) $$ XB7
  iintro XB7
  iapply (t_stat x c 1 6 6 7 rfl rfl (k0_pay15 (blk 7 (x c))) rfl) $$ A1
  iintro A1
  iapply (t_stat x c 1 7 7 8 rfl rfl (k0_pay16 (blk 7 (x c))) rfl) $$ A1
  iintro A1
  ihave A1 := (sums_done x 1 c) $$ A1
  iapply Hk
  iframe

theorem run11 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v32 : BitVec 32) (v44 : BitVec 32)
    {α : Type} {Φ : α → sProp 𝕄} {kk : PUnit → Prog (TpuEff nD τ sig (Elt F) Λ₀ .tc) α} :
    iprop(records (Acc x) K ∗ ow 15 c ∗ accAt 1 c fullShare (Acc x 0 1 c) ∗ land (F := F) 3 c ∗ land (F := F) 4 c
       ∗ sndR (F := F) 3 c ∗ sndR (F := F) 4 c)
    ⊢ iprop(((ow 13 c ∗ sndP x 5 c ∗ sndW (F := F) 3 c ∗ sndW (F := F) 4 c)
        -∗ go c (kk ⟨⟩) Φ)
      -∗ go c (((kp M1 h1 M2 h2 (k0_part11 (F := F))) c v32 v44) >>= kk) Φ) := by
  simp only [go, kp, k0_part11_eq_skeleton, k0_part11_skel, semSignalWord, semWaitWord, Prog.lift, Prog.bind_op, Prog.bind_ret, Prog.pure_eq_ret]
  iintro ⟨#Hrec, HO, A1, L3, L4, S3, S4⟩ Hk
  ihave ⟨P3, P4, P5⟩ := (shares x 0 1 c 3 4 5 rfl rfl rfl (by decide)).1 $$ A1
  iapply (t_send x K c _ 3 5 1 rfl rfl (dev10 c) 14 rfl) $$ [$Hrec $HO $P3 $L3 $S3]
  iintro ⟨S3, HO⟩
  iapply (t_send x K c _ 4 4 1 rfl rfl (dev11 c) 13 rfl) $$ [$Hrec $HO $P4 $L4 $S4]
  iintro ⟨S4, HO⟩
  iapply Hk
  iframe

theorem run12 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v32 : BitVec 32) (v56 : BitVec 32)
    {α : Type} {Φ : α → sProp 𝕄} {kk : PUnit → Prog (TpuEff nD τ sig (Elt F) Λ₀ .tc) α} :
    iprop(records (Acc x) K ∗ levAts L lv ∗ ow 13 c ∗ sndP x 5 c ∗ land (F := F) 5 c ∗ sndW (F := F) 0 c ∗ sndR (F := F) 5 c)
    ⊢ iprop(((ow 12 c ∗ sndP x 0 c ∗ rest (sendCell 0 c) ∗ sndW (F := F) 5 c)
        -∗ go c (kk ⟨⟩) Φ)
      -∗ go c (((kp M1 h1 M2 h2 (k0_part12 (F := F))) c v32 v56) >>= kk) Φ) := by
  simp only [go, kp, k0_part12_eq_skeleton, k0_part12_skel, semSignalWord, semWaitWord, Prog.lift, Prog.bind_op, Prog.bind_ret, Prog.pure_eq_ret]
  iintro ⟨#Hrec, #Hlev, HO, P5, L5, S0, S5⟩ Hk
  iapply (t_send x K c _ 5 3 1 rfl rfl (dev12 c) 12 rfl) $$ [$Hrec $HO $P5 $L5 $S5]
  iintro ⟨S5, HO⟩
  iapply (t_wait_send x K c 0 0 12 (by decide)) $$ [$Hrec $Hlev $HO $S0]
  iintro ⟨HO, S0, P0⟩
  iapply Hk
  iframe

theorem run13 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v44 : BitVec 32)
    {α : Type} {Φ : α → sProp 𝕄} {kk : PUnit → Prog (TpuEff nD τ sig (Elt F) Λ₀ .tc) α} :
    iprop(records (Acc x) K ∗ levAts L lv ∗ ow 12 c ∗ sndW (F := F) 1 c ∗ rcvW (F := F) 1 c ∗ rcvW (F := F) 2 c)
    ⊢ iprop(((ow 12 c ∗ sndP x 1 c ∗ rest (sendCell 1 c) ∗ rest (recvCell 1 c) ∗ rest (recvCell 2 c) ∗ rcvP x 1 c ∗ rcvP x 2 c)
        -∗ go c (kk ⟨⟩) Φ)
      -∗ go c (((kp M1 h1 M2 h2 (k0_part13 (F := F))) v44) >>= kk) Φ) := by
  simp only [go, kp, k0_part13_eq_skeleton, k0_part13_skel, semSignalWord, semWaitWord, Prog.lift, Prog.bind_op, Prog.bind_ret, Prog.pure_eq_ret]
  iintro ⟨#Hrec, #Hlev, HO, S1, R1, R2⟩ Hk
  iapply (t_wait_recv x K c 2 12 (by decide)) $$ [$Hrec $Hlev $HO $R2]
  iintro ⟨HO, R2, V2⟩
  iapply (t_wait_send x K c 1 0 12 (by decide)) $$ [$Hrec $Hlev $HO $S1]
  iintro ⟨HO, S1, P1⟩
  iapply (t_wait_recv x K c 1 12 (by decide)) $$ [$Hrec $Hlev $HO $R1]
  iintro ⟨HO, R1, V1⟩
  iapply Hk
  iframe

theorem run14 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v56 : BitVec 32)
    {α : Type} {Φ : α → sProp 𝕄} {kk : FVec F S2x1024 .f32 → Prog (TpuEff nD τ sig (Elt F) Λ₀ .tc) α} :
    iprop(records (Acc x) K ∗ levAts L lv ∗ ow 12 c ∗ sndP x 0 c ∗ sndP x 1 c ∗ sndW (F := F) 2 c ∗ rcvW (F := F) 0 c)
    ⊢ iprop(((ow 12 c ∗ accAt 0 c fullShare (Acc x 0 0 c) ∗ rest (sendCell 2 c) ∗ rest (recvCell 0 c) ∗ rcvP x 0 c)
        -∗ go c (kk (k0_pay17 (rdA (Acc x 0 0 c)) (rdS (got x 0 c)))) Φ)
      -∗ go c (((kp M1 h1 M2 h2 (k0_part14 (F := F))) v56) >>= kk) Φ) := by
  simp only [go, kp, k0_part14_eq_skeleton, k0_part14_skel, semSignalWord, semWaitWord, Prog.lift, Prog.bind_op, Prog.bind_ret, Prog.pure_eq_ret]
  iintro ⟨#Hrec, #Hlev, HO, P0, P1, S2, R0⟩ Hk
  iapply (t_wait_send x K c 2 0 12 (by decide)) $$ [$Hrec $Hlev $HO $S2]
  iintro ⟨HO, S2, P2⟩
  iapply (t_wait_recv x K c 0 12 (by decide)) $$ [$Hrec $Hlev $HO $R0]
  iintro ⟨HO, R0, V0⟩
  ihave A0 := (shares x 0 0 c 0 1 2 rfl rfl rfl (by decide)).2 $$ [$P0 $P1 $P2]
  iapply (t_acc c 0 fullShare (Acc x 0 0 c)) $$ A0
  iintro A0
  iapply (t_slot x c 0) $$ V0
  iintro V0
  iapply Hk
  iframe

theorem run15 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v67 : BitVec 32) (v78 : BitVec 32)
    {α : Type} {Φ : α → sProp 𝕄} {kk : PUnit → Prog (TpuEff nD τ sig (Elt F) Λ₀ .tc) α} :
    iprop(records (Acc x) K ∗ ow 12 c ∗ accAt 0 c fullShare (Acc x 0 0 c) ∗ land (F := F) 6 c ∗ sndR (F := F) 6 c ∗ rcvP x 1 c
       ∗ rcvP x 2 c)
    ⊢ iprop(((ow 11 c ∗ sndP x 7 c ∗ sndP x 8 c ∗ sndW (F := F) 6 c ∗ rcvP x 1 c ∗ rcvP x 2 c)
        -∗ go c (kk ⟨⟩) Φ)
      -∗ go c (((kp M1 h1 M2 h2 (k0_part15 (F := F))) c v67 v78 (k0_pay17 (rdA (Acc x 0 0 c)) (rdS (got x 0 c)))) >>= kk) Φ) := by
  simp only [go, kp, k0_part15_eq_skeleton, k0_part15_skel, semSignalWord, semWaitWord, Prog.lift, Prog.bind_op, Prog.bind_ret, Prog.pure_eq_ret]
  iintro ⟨#Hrec, HO, A0, L6, S6, V1, V2⟩ Hk
  iapply (t_slot x c 1) $$ V1
  iintro V1
  iapply (t_slot x c 2) $$ V2
  iintro V2
  iapply (t_set c 0 (Acc x 0 0 c) (Acc x 1 0 c) (Acc x 0 0 c) (got x 0 c) (got x 1 c) (got x 2 c) (comb_next x c 0 0 1 2 (by decide) (by decide) (by decide)) _ rfl) $$ A0
  iintro A0
  ihave ⟨P6, P7, P8⟩ := (shares x 1 0 c 6 7 8 rfl rfl rfl (by decide)).1 $$ A0
  iapply (t_send x K c _ 6 8 0 rfl rfl (dev13 c) 11 rfl) $$ [$Hrec $HO $P6 $L6 $S6]
  iintro ⟨S6, HO⟩
  iapply Hk
  iframe

theorem run16 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v89 : BitVec 32)
    {α : Type} {Φ : α → sProp 𝕄} {kk : PUnit → Prog (TpuEff nD τ sig (Elt F) Λ₀ .tc) α} :
    iprop(records (Acc x) K ∗ ow 11 c ∗ sndP x 7 c ∗ sndP x 8 c ∗ land (F := F) 7 c ∗ land (F := F) 8 c ∗ sndR (F := F) 7 c
       ∗ sndR (F := F) 8 c)
    ⊢ iprop(((ow 9 c ∗ sndW (F := F) 7 c ∗ sndW (F := F) 8 c)
        -∗ go c (kk ⟨⟩) Φ)
      -∗ go c (((kp M1 h1 M2 h2 (k0_part16 (F := F))) c v89) >>= kk) Φ) := by
  simp only [go, kp, k0_part16_eq_skeleton, k0_part16_skel, semSignalWord, semWaitWord, Prog.lift, Prog.bind_op, Prog.bind_ret, Prog.pure_eq_ret]
  iintro ⟨#Hrec, HO, P7, P8, L7, L8, S7, S8⟩ Hk
  iapply (t_send x K c _ 7 7 0 rfl rfl (dev14 c) 10 rfl) $$ [$Hrec $HO $P7 $L7 $S7]
  iintro ⟨S7, HO⟩
  iapply (t_send x K c _ 8 6 0 rfl rfl (dev15 c) 9 rfl) $$ [$Hrec $HO $P8 $L8 $S8]
  iintro ⟨S8, HO⟩
  iapply Hk
  iframe

end Cert.Norm

end
-- ==== Proof.Norm.PartC.lean ====
/-
# The parts of the body: C

The first phase over the second half, the sends of the second phase, and the second phase over the first half.
One lemma per part of the printed body, each from the steps of `Take`.
-/
module

public import proofs.«01_k».proof.Proof.Norm.Take

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

theorem run17 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v32 : BitVec 32) (v44 : BitVec 32)
    {α : Type} {Φ : α → sProp 𝕄} {kk : BitVec 32 → Prog (TpuEff nD τ sig (Elt F) Λ₀ .tc) α} :
    iprop(records (Acc x) K ∗ levAts L lv ∗ ow 9 c ∗ sndW (F := F) 3 c ∗ sndW (F := F) 4 c ∗ rcvW (F := F) 5 c)
    ⊢ iprop((∀ r, (ow 9 c ∗ sndP x 3 c ∗ sndP x 4 c ∗ rest (sendCell 3 c) ∗ rest (sendCell 4 c) ∗ rest (recvCell 5 c) ∗ rcvP x 5 c)
        -∗ go c (kk r) Φ)
      -∗ go c (((kp M1 h1 M2 h2 (k0_part17 (F := F))) v32 v44) >>= kk) Φ) := by
  simp only [go, kp, k0_part17_eq_skeleton, k0_part17_skel, semSignalWord, semWaitWord, Prog.lift, Prog.bind_op, Prog.bind_ret, Prog.pure_eq_ret]
  iintro ⟨#Hrec, #Hlev, HO, S3, S4, R5⟩ Hk
  iapply (t_wait_send x K c 3 1 9 (by decide)) $$ [$Hrec $Hlev $HO $S3]
  iintro ⟨HO, S3, P3⟩
  iapply (t_wait_recv x K c 5 9 (by decide)) $$ [$Hrec $Hlev $HO $R5]
  iintro ⟨HO, R5, V5⟩
  iapply (t_wait_send x K c 4 1 9 (by decide)) $$ [$Hrec $Hlev $HO $S4]
  iintro ⟨HO, S4, P4⟩
  iapply Hk
  iframe

theorem run18 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v56 : BitVec 32) (v413 : BitVec 32)
    {α : Type} {Φ : α → sProp 𝕄} {kk : PUnit → Prog (TpuEff nD τ sig (Elt F) Λ₀ .tc) α} :
    iprop(records (Acc x) K ∗ levAts L lv ∗ ow 9 c ∗ sndW (F := F) 5 c ∗ rcvW (F := F) 3 c ∗ rcvW (F := F) 4 c)
    ⊢ iprop(((ow 9 c ∗ sndP x 5 c ∗ rest (sendCell 5 c) ∗ rest (recvCell 3 c) ∗ rest (recvCell 4 c) ∗ rcvP x 3 c ∗ rcvP x 4 c)
        -∗ go c (kk ⟨⟩) Φ)
      -∗ go c (((kp M1 h1 M2 h2 (k0_part18 (F := F))) v56 v413) >>= kk) Φ) := by
  simp only [go, kp, k0_part18_eq_skeleton, k0_part18_skel, semSignalWord, semWaitWord, Prog.lift, Prog.bind_op, Prog.bind_ret, Prog.pure_eq_ret]
  iintro ⟨#Hrec, #Hlev, HO, S5, R3, R4⟩ Hk
  iapply (t_wait_recv x K c 4 9 (by decide)) $$ [$Hrec $Hlev $HO $R4]
  iintro ⟨HO, R4, V4⟩
  iapply (t_wait_send x K c 5 1 9 (by decide)) $$ [$Hrec $Hlev $HO $S5]
  iintro ⟨HO, S5, P5⟩
  iapply (t_wait_recv x K c 3 9 (by decide)) $$ [$Hrec $Hlev $HO $R3]
  iintro ⟨HO, R3, V3⟩
  iapply Hk
  iframe

theorem run19 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v67 : BitVec 32)
    {α : Type} {Φ : α → sProp 𝕄} {kk : PUnit → Prog (TpuEff nD τ sig (Elt F) Λ₀ .tc) α} :
    iprop(sndP x 3 c ∗ sndP x 4 c ∗ sndP x 5 c ∗ rcvP x 3 c ∗ rcvP x 4 c ∗ rcvP x 5 c)
    ⊢ iprop(((accAt 1 c fullShare (Acc x 1 1 c) ∗ rcvP x 3 c ∗ rcvP x 4 c ∗ rcvP x 5 c)
        -∗ go c (kk ⟨⟩) Φ)
      -∗ go c (((kp M1 h1 M2 h2 (k0_part19 (F := F))) v67) >>= kk) Φ) := by
  simp only [go, kp, k0_part19_eq_skeleton, k0_part19_skel, semSignalWord, semWaitWord, Prog.lift, Prog.bind_op, Prog.bind_ret, Prog.pure_eq_ret]
  iintro ⟨P3, P4, P5, V3, V4, V5⟩ Hk
  ihave A1 := (shares x 0 1 c 3 4 5 rfl rfl rfl (by decide)).2 $$ [$P3 $P4 $P5]
  iapply (t_acc c 1 fullShare (Acc x 0 1 c)) $$ A1
  iintro A1
  iapply (t_slot x c 3) $$ V3
  iintro V3
  iapply (t_slot x c 4) $$ V4
  iintro V4
  iapply (t_slot x c 5) $$ V5
  iintro V5
  iapply (t_set c 1 (Acc x 0 1 c) (Acc x 1 1 c) (Acc x 0 1 c) (got x 3 c) (got x 4 c) (got x 5 c) (comb_next x c 1 3 4 5 (by decide) (by decide) (by decide)) _ rfl) $$ A1
  iintro A1
  iapply Hk
  iframe

theorem run20 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v78 : BitVec 32) (v89 : BitVec 32)
    {α : Type} {Φ : α → sProp 𝕄} {kk : PUnit → Prog (TpuEff nD τ sig (Elt F) Λ₀ .tc) α} :
    iprop(records (Acc x) K ∗ ow 9 c ∗ accAt 1 c fullShare (Acc x 1 1 c) ∗ land (F := F) 9 c ∗ land (F := F) 10 c
       ∗ land (F := F) 11 c ∗ sndR (F := F) 9 c ∗ sndR (F := F) 10 c ∗ sndR (F := F) 11 c)
    ⊢ iprop(((ow 6 c ∗ sndW (F := F) 9 c ∗ sndW (F := F) 10 c ∗ sndW (F := F) 11 c)
        -∗ go c (kk ⟨⟩) Φ)
      -∗ go c (((kp M1 h1 M2 h2 (k0_part20 (F := F))) c v78 v89) >>= kk) Φ) := by
  simp only [go, kp, k0_part20_eq_skeleton, k0_part20_skel, semSignalWord, semWaitWord, Prog.lift, Prog.bind_op, Prog.bind_ret, Prog.pure_eq_ret]
  iintro ⟨#Hrec, HO, A1, L9, L10, L11, S9, S10, S11⟩ Hk
  ihave ⟨P9, P10, P11⟩ := (shares x 1 1 c 9 10 11 rfl rfl rfl (by decide)).1 $$ A1
  iapply (t_send x K c _ 9 11 1 rfl rfl (dev16 c) 8 rfl) $$ [$Hrec $HO $P9 $L9 $S9]
  iintro ⟨S9, HO⟩
  iapply (t_send x K c _ 10 10 1 rfl rfl (dev17 c) 7 rfl) $$ [$Hrec $HO $P10 $L10 $S10]
  iintro ⟨S10, HO⟩
  iapply (t_send x K c _ 11 9 1 rfl rfl (dev18 c) 6 rfl) $$ [$Hrec $HO $P11 $L11 $S11]
  iintro ⟨S11, HO⟩
  iapply Hk
  iframe

theorem run21 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v67 : BitVec 32)
    {α : Type} {Φ : α → sProp 𝕄} {kk : PUnit → Prog (TpuEff nD τ sig (Elt F) Λ₀ .tc) α} :
    iprop(records (Acc x) K ∗ levAts L lv ∗ ow 6 c ∗ sndW (F := F) 6 c ∗ rcvW (F := F) 8 c)
    ⊢ iprop(((ow 6 c ∗ sndP x 6 c ∗ rest (sendCell 6 c) ∗ rest (recvCell 8 c) ∗ rcvP x 8 c)
        -∗ go c (kk ⟨⟩) Φ)
      -∗ go c (((kp M1 h1 M2 h2 (k0_part21 (F := F))) v67) >>= kk) Φ) := by
  simp only [go, kp, k0_part21_eq_skeleton, k0_part21_skel, semSignalWord, semWaitWord, Prog.lift, Prog.bind_op, Prog.bind_ret, Prog.pure_eq_ret]
  iintro ⟨#Hrec, #Hlev, HO, S6, R8⟩ Hk
  iapply (t_wait_send x K c 6 0 6 (by decide)) $$ [$Hrec $Hlev $HO $S6]
  iintro ⟨HO, S6, P6⟩
  iapply (t_wait_recv x K c 8 6 (by decide)) $$ [$Hrec $Hlev $HO $R8]
  iintro ⟨HO, R8, V8⟩
  iapply Hk
  iframe

theorem run22 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v78 : BitVec 32)
    {α : Type} {Φ : α → sProp 𝕄} {kk : PUnit → Prog (TpuEff nD τ sig (Elt F) Λ₀ .tc) α} :
    iprop(records (Acc x) K ∗ levAts L lv ∗ ow 6 c ∗ sndW (F := F) 7 c ∗ sndW (F := F) 8 c ∗ rcvW (F := F) 7 c)
    ⊢ iprop(((ow 6 c ∗ sndP x 7 c ∗ sndP x 8 c ∗ rest (sendCell 7 c) ∗ rest (sendCell 8 c) ∗ rest (recvCell 7 c) ∗ rcvP x 7 c)
        -∗ go c (kk ⟨⟩) Φ)
      -∗ go c (((kp M1 h1 M2 h2 (k0_part22 (F := F))) v78) >>= kk) Φ) := by
  simp only [go, kp, k0_part22_eq_skeleton, k0_part22_skel, semSignalWord, semWaitWord, Prog.lift, Prog.bind_op, Prog.bind_ret, Prog.pure_eq_ret]
  iintro ⟨#Hrec, #Hlev, HO, S7, S8, R7⟩ Hk
  iapply (t_wait_send x K c 7 0 6 (by decide)) $$ [$Hrec $Hlev $HO $S7]
  iintro ⟨HO, S7, P7⟩
  iapply (t_wait_recv x K c 7 6 (by decide)) $$ [$Hrec $Hlev $HO $R7]
  iintro ⟨HO, R7, V7⟩
  iapply (t_wait_send x K c 8 0 6 (by decide)) $$ [$Hrec $Hlev $HO $S8]
  iintro ⟨HO, S8, P8⟩
  iapply Hk
  iframe

theorem run23 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v89 : BitVec 32)
    {α : Type} {Φ : α → sProp 𝕄} {kk : (Σ' (_ : FVec F S1024 .f32), F .f32) → Prog (TpuEff nD τ sig (Elt F) Λ₀ .tc) α} :
    iprop(records (Acc x) K ∗ levAts L lv ∗ ow 6 c ∗ sndP x 6 c ∗ sndP x 7 c ∗ sndP x 8 c ∗ rcvW (F := F) 6 c ∗ rcvP x 7 c
       ∗ rcvP x 8 c)
    ⊢ iprop(((ow 6 c ∗ accAt 0 c fullShare (Tot x 0 c) ∗ rest (recvCell 6 c) ∗ rcvP x 6 c ∗ rcvP x 7 c ∗ rcvP x 8 c)
        -∗ go c (kk ⟨(k0_pay21 (rowOf 0 (Tot x 0 c))), cst⟩) Φ)
      -∗ go c (((kp M1 h1 M2 h2 (k0_part23 (F := F))) v89) >>= kk) Φ) := by
  simp only [go, kp, k0_part23_eq_skeleton, k0_part23_skel, semSignalWord, semWaitWord, Prog.lift, Prog.bind_op, Prog.bind_ret, Prog.pure_eq_ret]
  iintro ⟨#Hrec, #Hlev, HO, P6, P7, P8, R6, V7, V8⟩ Hk
  iapply (t_wait_recv x K c 6 6 (by decide)) $$ [$Hrec $Hlev $HO $R6]
  iintro ⟨HO, R6, V6⟩
  ihave A0 := (shares x 1 0 c 6 7 8 rfl rfl rfl (by decide)).2 $$ [$P6 $P7 $P8]
  iapply (t_acc c 0 fullShare (Acc x 1 0 c)) $$ A0
  iintro A0
  iapply (t_slot x c 6) $$ V6
  iintro V6
  iapply (t_slot x c 7) $$ V7
  iintro V7
  iapply (t_slot x c 8) $$ V8
  iintro V8
  iapply (t_set c 0 (Acc x 1 0 c) (Tot x 0 c) (Acc x 1 0 c) (got x 6 c) (got x 7 c) (got x 8 c) (comb_tot x c 0 6 7 8 (by decide) (by decide) (by decide)) _ rfl) $$ A0
  iintro A0
  iapply (step_load_row c 0 0 fullShare (Tot x 0 c)) $$ A0
  iintro A0
  iapply Hk
  iframe

end Cert.Norm

end
-- ==== Proof.Norm.PartD.lean ====
/-
# The parts of the body: D

The output of the first half, the second phase over the second half, its output and the signals at the end.
One lemma per part of the printed body, each from the steps of `Take`.
-/
module

public import proofs.«01_k».proof.Proof.Norm.Take

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

theorem run24 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : (Σ' (_ : FVec F S1024x1 .f32) (_ : FVec F S1024x1 .f32) (_ : FVec F S1x1024 .f32) (_ : FVec F S1x1024 .f32) (_ : Vec F S256x1024 .f32), FVec F S256x1 .f32) → Prog (TpuEff nD τ sig (Elt F) Λ₀ .tc) α} :
    iprop(xbAt 0 c (blk 0 (x c)) ∗ xbAt 1 c (blk 1 (x c)) ∗ accAt 0 c fullShare (Tot x 0 c) ∗ gAt M1 c g ∗ gAt M2 c bt
       ∗ outR (F := F) 0 c)
    ⊢ iprop(((xbAt 0 c (blk 0 (x c)) ∗ xbAt 1 c (blk 1 (x c)) ∗ accAt 0 c fullShare (Tot x 0 c) ∗ gAt M1 c g ∗ gAt M2 c bt
       ∗ outFl 0 c (outV x g bt c 0))
        -∗ go c (kk ⟨mu0 (Tot x 0 c), iv0 (Tot x 0 c), k0_pay25 g, k0_pay26 bt, blk 1 (x c), k0_pay28 (k0_pay21 (rowOf 0 (Tot x 0 c))) cst⟩) Φ)
      -∗ go c (((kp M1 h1 M2 h2 (k0_part24 (F := F))) (k0_pay21 (rowOf 0 (Tot x 0 c))) cst) >>= kk) Φ) := by
  simp only [go, kp, k0_part24_eq_skeleton, k0_part24_skel, semSignalWord, semWaitWord, Prog.lift, Prog.bind_op, Prog.bind_ret, Prog.pure_eq_ret]
  iintro ⟨XB0, XB1, A0, Hg, Hb, O0⟩ Hk
  iapply (step_load_row c 0 1 fullShare (Tot x 0 c)) $$ A0
  iintro A0
  iapply (t_g c M1 g) $$ Hg
  iintro Hg
  iapply (t_g c M2 bt) $$ Hb
  iintro Hb
  iapply (t_xb c 0 (blk 0 (x c))) $$ XB0
  iintro XB0
  iapply (t_ob c 0 _ (outV x g bt c 0) (out_0 _ _ _ _)) $$ O0
  iintro O0
  iapply (t_out c 0 (outV x g bt c 0)) $$ O0
  iintro O0
  iapply (t_xb c 1 (blk 1 (x c))) $$ XB1
  iintro XB1
  iapply Hk
  iframe

theorem run25 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : (Σ' (_ : Vec F S256x1024 .f32), FVec F S256x1 .f32) → Prog (TpuEff nD τ sig (Elt F) Λ₀ .tc) α} :
    iprop(xbAt 2 c (blk 2 (x c)) ∗ xbAt 3 c (blk 3 (x c)) ∗ outR (F := F) 1 c ∗ outR (F := F) 2 c)
    ⊢ iprop(((xbAt 2 c (blk 2 (x c)) ∗ xbAt 3 c (blk 3 (x c)) ∗ outFl 1 c (outV x g bt c 1) ∗ outFl 2 c (outV x g bt c 2))
        -∗ go c (kk ⟨blk 3 (x c), k0_pay31 (mu0 (Tot x 0 c))⟩) Φ)
      -∗ go c (((kp M1 h1 M2 h2 (k0_part25 (F := F))) (mu0 (Tot x 0 c)) (iv0 (Tot x 0 c)) (k0_pay25 g) (k0_pay26 bt) (blk 1 (x c)) (k0_pay28 (k0_pay21 (rowOf 0 (Tot x 0 c))) cst)) >>= kk) Φ) := by
  simp only [go, kp, k0_part25_eq_skeleton, k0_part25_skel, semSignalWord, semWaitWord, Prog.lift, Prog.bind_op, Prog.bind_ret, Prog.pure_eq_ret]
  iintro ⟨XB2, XB3, O1, O2⟩ Hk
  iapply (t_ob c 1 _ (outV x g bt c 1) (out_1 _ _ _ _)) $$ O1
  iintro O1
  iapply (t_out c 1 (outV x g bt c 1)) $$ O1
  iintro O1
  iapply (t_xb c 2 (blk 2 (x c))) $$ XB2
  iintro XB2
  iapply (t_ob c 2 _ (outV x g bt c 2) (out_2 _ _ _ _)) $$ O2
  iintro O2
  iapply (t_out c 2 (outV x g bt c 2)) $$ O2
  iintro O2
  iapply (t_xb c 3 (blk 3 (x c))) $$ XB3
  iintro XB3
  iapply Hk
  iframe

theorem run26 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v67 : BitVec 32)
    {α : Type} {Φ : α → sProp 𝕄} {kk : BitVec 32 → Prog (TpuEff nD τ sig (Elt F) Λ₀ .tc) α} :
    iprop(records (Acc x) K ∗ levAts L lv ∗ ow 6 c ∗ sndW (F := F) 9 c ∗ outR (F := F) 3 c)
    ⊢ iprop((∀ r, (ow 6 c ∗ sndP x 9 c ∗ rest (sendCell 9 c) ∗ outFl 3 c (outV x g bt c 3))
        -∗ go c (kk r) Φ)
      -∗ go c (((kp M1 h1 M2 h2 (k0_part26 (F := F))) v67 (iv0 (Tot x 0 c)) (k0_pay25 g) (k0_pay26 bt) (blk 3 (x c)) (k0_pay31 (mu0 (Tot x 0 c)))) >>= kk) Φ) := by
  simp only [go, kp, k0_part26_eq_skeleton, k0_part26_skel, semSignalWord, semWaitWord, Prog.lift, Prog.bind_op, Prog.bind_ret, Prog.pure_eq_ret]
  iintro ⟨#Hrec, #Hlev, HO, S9, O3⟩ Hk
  iapply (t_ob c 3 _ (outV x g bt c 3) (out_3 _ _ _ _)) $$ O3
  iintro O3
  iapply (t_out c 3 (outV x g bt c 3)) $$ O3
  iintro O3
  iapply (t_wait_send x K c 9 1 6 (by decide)) $$ [$Hrec $Hlev $HO $S9]
  iintro ⟨HO, S9, P9⟩
  iapply Hk
  iframe

theorem run27 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v78 : BitVec 32) (v638 : BitVec 32)
    {α : Type} {Φ : α → sProp 𝕄} {kk : PUnit → Prog (TpuEff nD τ sig (Elt F) Λ₀ .tc) α} :
    iprop(records (Acc x) K ∗ levAts L lv ∗ ow 6 c ∗ sndW (F := F) 10 c ∗ rcvW (F := F) 10 c ∗ rcvW (F := F) 11 c)
    ⊢ iprop(((ow 6 c ∗ sndP x 10 c ∗ rest (sendCell 10 c) ∗ rest (recvCell 10 c) ∗ rest (recvCell 11 c) ∗ rcvP x 10 c ∗ rcvP x 11 c)
        -∗ go c (kk ⟨⟩) Φ)
      -∗ go c (((kp M1 h1 M2 h2 (k0_part27 (F := F))) v78 v638) >>= kk) Φ) := by
  simp only [go, kp, k0_part27_eq_skeleton, k0_part27_skel, semSignalWord, semWaitWord, Prog.lift, Prog.bind_op, Prog.bind_ret, Prog.pure_eq_ret]
  iintro ⟨#Hrec, #Hlev, HO, S10, R10, R11⟩ Hk
  iapply (t_wait_recv x K c 11 6 (by decide)) $$ [$Hrec $Hlev $HO $R11]
  iintro ⟨HO, R11, V11⟩
  iapply (t_wait_send x K c 10 1 6 (by decide)) $$ [$Hrec $Hlev $HO $S10]
  iintro ⟨HO, S10, P10⟩
  iapply (t_wait_recv x K c 10 6 (by decide)) $$ [$Hrec $Hlev $HO $R10]
  iintro ⟨HO, R10, V10⟩
  iapply Hk
  iframe

theorem run28 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v89 : BitVec 32)
    {α : Type} {Φ : α → sProp 𝕄} {kk : FVec F S2x1024 .f32 → Prog (TpuEff nD τ sig (Elt F) Λ₀ .tc) α} :
    iprop(records (Acc x) K ∗ levAts L lv ∗ ow 6 c ∗ sndP x 9 c ∗ sndP x 10 c ∗ sndW (F := F) 11 c ∗ rcvW (F := F) 9 c)
    ⊢ iprop(((ow 6 c ∗ accAt 1 c fullShare (Acc x 1 1 c) ∗ rest (sendCell 11 c) ∗ rest (recvCell 9 c) ∗ rcvP x 9 c)
        -∗ go c (kk (k0_pay33 (rdA (Acc x 1 1 c)) (rdS (got x 9 c)))) Φ)
      -∗ go c (((kp M1 h1 M2 h2 (k0_part28 (F := F))) v89) >>= kk) Φ) := by
  simp only [go, kp, k0_part28_eq_skeleton, k0_part28_skel, semSignalWord, semWaitWord, Prog.lift, Prog.bind_op, Prog.bind_ret, Prog.pure_eq_ret]
  iintro ⟨#Hrec, #Hlev, HO, P9, P10, S11, R9⟩ Hk
  iapply (t_wait_send x K c 11 1 6 (by decide)) $$ [$Hrec $Hlev $HO $S11]
  iintro ⟨HO, S11, P11⟩
  iapply (t_wait_recv x K c 9 6 (by decide)) $$ [$Hrec $Hlev $HO $R9]
  iintro ⟨HO, R9, V9⟩
  ihave A1 := (shares x 1 1 c 9 10 11 rfl rfl rfl (by decide)).2 $$ [$P9 $P10 $P11]
  iapply (t_acc c 1 fullShare (Acc x 1 1 c)) $$ A1
  iintro A1
  iapply (t_slot x c 9) $$ V9
  iintro V9
  iapply Hk
  iframe

theorem run29 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32) (v32 : BitVec 32) (v44 : BitVec 32) (v56 : BitVec 32) (v67 : BitVec 32) (v78 : BitVec 32) (v89 : BitVec 32)
    {α : Type} {Φ : α → sProp 𝕄} {kk : PUnit → Prog (TpuEff nD τ sig (Elt F) Λ₀ .tc) α} :
    iprop(records (Acc x) K ∗ ow 6 c ∗ accAt 1 c fullShare (Acc x 1 1 c) ∗ rcvP x 10 c ∗ rcvP x 11 c ∗ exitR (F := F) 0 c
       ∗ exitR (F := F) 1 c ∗ exitR (F := F) 2 c ∗ exitR (F := F) 3 c ∗ exitR (F := F) 4 c ∗ exitR (F := F) 5 c)
    ⊢ iprop(((ow 0 c ∗ accAt 1 c fullShare (Tot x 1 c) ∗ rcvP x 10 c ∗ rcvP x 11 c)
        -∗ go c (kk ⟨⟩) Φ)
      -∗ go c (((kp M1 h1 M2 h2 (k0_part29 (F := F))) c v32 v44 v56 v67 v78 v89 (k0_pay33 (rdA (Acc x 1 1 c)) (rdS (got x 9 c)))) >>= kk) Φ) := by
  simp only [go, kp, k0_part29_eq_skeleton, k0_part29_skel, semSignalWord, semWaitWord, Prog.lift, Prog.bind_op, Prog.bind_ret, Prog.pure_eq_ret]
  iintro ⟨#Hrec, HO, A1, V10, V11, E0, E1, E2, E3, E4, E5⟩ Hk
  iapply (t_slot x c 10) $$ V10
  iintro V10
  iapply (t_slot x c 11) $$ V11
  iintro V11
  iapply (t_set c 1 (Acc x 1 1 c) (Tot x 1 c) (Acc x 1 1 c) (got x 9 c) (got x 10 c) (got x 11 c) (comb_tot x c 1 9 10 11 (by decide) (by decide) (by decide)) _ rfl) $$ A1
  iintro A1
  iapply (t_exit x K c _ 0 (dev19 c) 5 rfl 1 rfl) $$ [$Hrec $HO $E0]
  iintro HO
  iapply (t_exit x K c _ 1 (dev20 c) 4 rfl 1 rfl) $$ [$Hrec $HO $E1]
  iintro HO
  iapply (t_exit x K c _ 2 (dev21 c) 3 rfl 1 rfl) $$ [$Hrec $HO $E2]
  iintro HO
  iapply (t_exit x K c _ 3 (dev22 c) 2 rfl 1 rfl) $$ [$Hrec $HO $E3]
  iintro HO
  iapply (t_exit x K c _ 4 (dev23 c) 1 rfl 1 rfl) $$ [$Hrec $HO $E4]
  iintro HO
  iapply (t_exit x K c _ 5 (dev24 c) 0 rfl 1 rfl) $$ [$Hrec $HO $E5]
  iintro HO
  iapply Hk
  iframe

theorem run30 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : (Σ' (_ : FVec F S1024x1 .f32) (_ : FVec F S1024x1 .f32) (_ : FVec F S1x1024 .f32), FVec F S1x1024 .f32) → Prog (TpuEff nD τ sig (Elt F) Λ₀ .tc) α} :
    iprop(xbAt 4 c (blk 4 (x c)) ∗ accAt 1 c fullShare (Tot x 1 c) ∗ gAt M1 c g ∗ gAt M2 c bt ∗ outR (F := F) 4 c)
    ⊢ iprop(((xbAt 4 c (blk 4 (x c)) ∗ accAt 1 c fullShare (Tot x 1 c) ∗ gAt M1 c g ∗ gAt M2 c bt ∗ outM 4 c (outV x g bt c 4))
        -∗ go c (kk ⟨k0_pay36 (rowOf 0 (Tot x 1 c)), k0_pay37 (rowOf 0 (Tot x 1 c)) (rowOf 1 (Tot x 1 c)), k0_pay38 g, k0_pay39 bt⟩) Φ)
      -∗ go c ((kp M1 h1 M2 h2 (k0_part30 (F := F))) >>= kk) Φ) := by
  simp only [go, kp, k0_part30_eq_skeleton, k0_part30_skel, semSignalWord, semWaitWord, Prog.lift, Prog.bind_op, Prog.bind_ret, Prog.pure_eq_ret]
  iintro ⟨XB4, A1, Hg, Hb, O4⟩ Hk
  iapply (step_load_row c 1 0 fullShare (Tot x 1 c)) $$ A1
  iintro A1
  iapply (step_load_row c 1 1 fullShare (Tot x 1 c)) $$ A1
  iintro A1
  iapply (t_g c M1 g) $$ Hg
  iintro Hg
  iapply (t_g c M2 bt) $$ Hb
  iintro Hb
  iapply (t_xb c 4 (blk 4 (x c))) $$ XB4
  iintro XB4
  iapply (t_ob c 4 _ (outV x g bt c 4) rfl) $$ O4
  iintro O4
  iapply Hk
  iframe

theorem run31 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : PUnit → Prog (TpuEff nD τ sig (Elt F) Λ₀ .tc) α} :
    iprop(xbAt 5 c (blk 5 (x c)) ∗ xbAt 6 c (blk 6 (x c)) ∗ outM 4 c (outV x g bt c 4) ∗ outR (F := F) 5 c ∗ outR (F := F) 6 c)
    ⊢ iprop(((xbAt 5 c (blk 5 (x c)) ∗ xbAt 6 c (blk 6 (x c)) ∗ outFl 4 c (outV x g bt c 4) ∗ outFl 5 c (outV x g bt c 5)
       ∗ outM 6 c (outV x g bt c 6))
        -∗ go c (kk ⟨⟩) Φ)
      -∗ go c (((kp M1 h1 M2 h2 (k0_part31 (F := F))) (k0_pay36 (rowOf 0 (Tot x 1 c))) (k0_pay37 (rowOf 0 (Tot x 1 c)) (rowOf 1 (Tot x 1 c))) (k0_pay38 g) (k0_pay39 bt)) >>= kk) Φ) := by
  simp only [go, kp, k0_part31_eq_skeleton, k0_part31_skel, semSignalWord, semWaitWord, Prog.lift, Prog.bind_op, Prog.bind_ret, Prog.pure_eq_ret]
  iintro ⟨XB5, XB6, O4, O5, O6⟩ Hk
  iapply (t_out c 4 (outV x g bt c 4)) $$ O4
  iintro O4
  iapply (t_xb c 5 (blk 5 (x c))) $$ XB5
  iintro XB5
  iapply (t_ob c 5 _ (outV x g bt c 5) rfl) $$ O5
  iintro O5
  iapply (t_out c 5 (outV x g bt c 5)) $$ O5
  iintro O5
  iapply (t_xb c 6 (blk 6 (x c))) $$ XB6
  iintro XB6
  iapply (t_ob c 6 _ (outV x g bt c 6) rfl) $$ O6
  iintro O6
  iapply Hk
  iframe

theorem run32 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {α : Type} {Φ : α → sProp 𝕄} {kk : PUnit → Prog (TpuEff nD τ sig (Elt F) Λ₀ .tc) α} :
    iprop(levAts L lv ∗ ow 0 c ∗ xbAt 7 c (blk 7 (x c)) ∗ outFl 0 c (outV x g bt c 0) ∗ outFl 1 c (outV x g bt c 1)
       ∗ outM 6 c (outV x g bt c 6) ∗ outR (F := F) 7 c)
    ⊢ iprop(((ow 0 c ∗ xbAt 7 c (blk 7 (x c)) ∗ outZ 0 c (outV x g bt c 0) ∗ outZ 1 c (outV x g bt c 1) ∗ outFl 6 c (outV x g bt c 6)
       ∗ outFl 7 c (outV x g bt c 7))
        -∗ go c (kk ⟨⟩) Φ)
      -∗ go c (((kp M1 h1 M2 h2 (k0_part32 (F := F))) (k0_pay36 (rowOf 0 (Tot x 1 c))) (k0_pay37 (rowOf 0 (Tot x 1 c)) (rowOf 1 (Tot x 1 c))) (k0_pay38 g) (k0_pay39 bt)) >>= kk) Φ) := by
  simp only [go, kp, k0_part32_eq_skeleton, k0_part32_skel, semSignalWord, semWaitWord, Prog.lift, Prog.bind_op, Prog.bind_ret, Prog.pure_eq_ret]
  iintro ⟨#Hlev, HO, XB7, O0, O1, O6, O7⟩ Hk
  iapply (t_out c 6 (outV x g bt c 6)) $$ O6
  iintro O6
  iapply (t_xb c 7 (blk 7 (x c))) $$ XB7
  iintro XB7
  iapply (t_ob c 7 _ (outV x g bt c 7) rfl) $$ O7
  iintro O7
  iapply (t_out c 7 (outV x g bt c 7)) $$ O7
  iintro O7
  iapply (t_wait_out c 0 (outV x g bt c 0)) $$ [$Hlev $HO $O0]
  iintro ⟨HO, O0⟩
  iapply (t_wait_out c 1 (outV x g bt c 1)) $$ [$Hlev $HO $O1]
  iintro ⟨HO, O1⟩
  iapply Hk
  iframe

end Cert.Norm

end
-- ==== Proof.Norm.Body.lean ====
/-
# The body of the call

The parts of the body in their order, and then the whole body: from what a device holds when the call starts to what it
holds when the call ends.
-/
module

public import proofs.«01_k».proof.Proof.Norm.PartA
public import proofs.«01_k».proof.Proof.Norm.PartB
public import proofs.«01_k».proof.Proof.Norm.PartC
public import proofs.«01_k».proof.Proof.Norm.PartD

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

theorem sep6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; simp only [bigSepL_cons_cons, bigSepL_singleton]; rfl
theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; simp only [bigSepL_cons_cons, bigSepL_singleton]; rfl
theorem sep12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]; simp only [bigSepL_cons_cons, bigSepL_singleton]; rfl

theorem run33 (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {Φ : PUnit → sProp 𝕄} :
    iprop(records (Acc x) K ∗ levAts L lv ∗ ow 24 c ∗ bigSep Finset.univ (fun j : Fin 6 => barR (F := F) j c) ∗ barW (F := F) c
       ∗ bigSep Finset.univ (fun b : Fin 8 => inR b c (x c)) ∗ accPart 0 c (sumsOf 0 (x c)) 0 ∗ accPart 1 c (sumsOf 1 (x c)) 0
       ∗ bigSep Finset.univ (fun n : Fin 12 => sndR (F := F) n c) ∗ bigSep Finset.univ (fun n : Fin 12 => rcvW (F := F) n c)
       ∗ gAt M1 c g ∗ gAt M2 c bt ∗ bigSep Finset.univ (fun b : Fin 8 => outR (F := F) b c)
       ∗ bigSep Finset.univ (fun j : Fin 6 => exitR (F := F) j c))
    ⊢ iprop(((ow 0 c ∗ rest (barCell c) ∗ bigSep Finset.univ (fun b : Fin 8 => inZ b c (x c))
       ∗ bigSep Finset.univ (fun b : Fin 8 => xbAt b c (blk b (x c))) ∗ accAt 0 c fullShare (Tot x 0 c)
       ∗ accAt 1 c fullShare (Tot x 1 c) ∗ bigSep Finset.univ (fun n : Fin 12 => rest (sendCell n c))
       ∗ bigSep Finset.univ (fun n : Fin 12 => rest (recvCell n c)) ∗ bigSep Finset.univ (fun n : Fin 12 => rcvP x n c)
       ∗ gAt M1 c g ∗ gAt M2 c bt ∗ outZ 0 c (outV x g bt c 0) ∗ outZ 1 c (outV x g bt c 1) ∗ outZ 2 c (outV x g bt c 2)
       ∗ outZ 3 c (outV x g bt c 3) ∗ outZ 4 c (outV x g bt c 4) ∗ outFl 5 c (outV x g bt c 5) ∗ outFl 6 c (outV x g bt c 6)
       ∗ outFl 7 c (outV x g bt c 7))
        -∗ Φ ⟨⟩)
      -∗ go c (kp M1 h1 M2 h2 (k0_part33 (F := F))) Φ) := by
  simp only [go, kp, k0_part33_eq_skeleton, k0_part33_skel, semSignalWord, semWaitWord, Prog.lift, Prog.bind_op, Prog.bind_ret, Prog.pure_eq_ret, sep6, sep8, sep12]
  iintro ⟨#Hrec, #Hlev, HO, ⟨J0, J1, J2, J3, J4, J5⟩, W, ⟨I0, I1, I2, I3, I4, I5, I6, I7⟩, A0, A1, ⟨S0, S1, S2, S3, S4, S5, S6, S7, S8, S9, S10, S11⟩, ⟨R0, R1, R2, R3, R4, R5, R6, R7, R8, R9, R10, R11⟩, Hg, Hb, ⟨O0, O1, O2, O3, O4, O5, O6, O7⟩, ⟨E0, E1, E2, E3, E4, E5⟩⟩ Hk
  iapply (run1 M1 h1 M2 h2 x K c g bt)
  iintro %a %b %d %e %f %h
  iapply (run2 M1 h1 M2 h2 x K c g bt _ _ _ _ _)
  iintro %r
  obtain ⟨v44, v56, v67, v70, v71, v72, v73, c0⟩ := r
  iapply (run3 M1 h1 M2 h2 x K c g bt _ _ _ _ _ _) $$ [$I0 $I1 $I2]
  iintro %r ⟨I0, I1, I2⟩
  obtain ⟨v78, v89⟩ := r
  iapply (run4 M1 h1 M2 h2 x K c g bt _ _ _) $$ [$Hrec $HO $J0 $J1 $I3 $I4 $I5 $I6 $I7]
  iintro %a %b ⟨HO, I3, I4, I5, I6, I7⟩
  iapply (run5 M1 h1 M2 h2 x K c g bt _ _ _ _ _) $$ [$Hrec $Hlev $HO $J2 $J3 $J4 $J5 $I0 $A0]
  iintro ⟨HO, I0, XB0, A0⟩
  iapply (run6 M1 h1 M2 h2 x K c g bt) $$ [$Hlev $HO $I1 $I2 $A0]
  iintro ⟨HO, I1, I2, XB1, XB2, A0⟩
  iapply (run7 M1 h1 M2 h2 x K c g bt _) $$ [$Hrec $Hlev $HO $W $I3 $A0 $S0]
  iintro ⟨HO, W, I3, XB3, P1, P2, L1, L2, L3, L4, L5, L6, L7, L8, L9, L10, L11, S0⟩
  iapply (run8 M1 h1 M2 h2 x K c g bt _ _) $$ [$Hrec $HO $P1 $P2 $L1 $L2 $S1 $S2]
  iintro ⟨HO, S1, S2⟩
  iapply (run9 M1 h1 M2 h2 x K c g bt) $$ [$Hlev $HO $I4 $I5 $A1]
  iintro ⟨HO, I4, I5, XB4, XB5, A1⟩
  iapply (run10 M1 h1 M2 h2 x K c g bt) $$ [$Hlev $HO $I6 $I7 $A1]
  iintro ⟨HO, I6, I7, XB6, XB7, A1⟩
  iapply (run11 M1 h1 M2 h2 x K c g bt _ _) $$ [$Hrec $HO $A1 $L3 $L4 $S3 $S4]
  iintro ⟨HO, P5, S3, S4⟩
  iapply (run12 M1 h1 M2 h2 x K c g bt _ _) $$ [$Hrec $Hlev $HO $P5 $L5 $S0 $S5]
  iintro ⟨HO, P0, S0, S5⟩
  iapply (run13 M1 h1 M2 h2 x K c g bt _) $$ [$Hrec $Hlev $HO $S1 $R1 $R2]
  iintro ⟨HO, P1, S1, R1, R2, V1, V2⟩
  iapply (run14 M1 h1 M2 h2 x K c g bt _) $$ [$Hrec $Hlev $HO $P0 $P1 $S2 $R0]
  iintro ⟨HO, A0, S2, R0, V0⟩
  iapply (run15 M1 h1 M2 h2 x K c g bt _ _) $$ [$Hrec $HO $A0 $L6 $S6 $V1 $V2]
  iintro ⟨HO, P7, P8, S6, V1, V2⟩
  iapply (run16 M1 h1 M2 h2 x K c g bt _) $$ [$Hrec $HO $P7 $P8 $L7 $L8 $S7 $S8]
  iintro ⟨HO, S7, S8⟩
  iapply (run17 M1 h1 M2 h2 x K c g bt _ _) $$ [$Hrec $Hlev $HO $S3 $S4 $R5]
  iintro %r ⟨HO, P3, P4, S3, S4, R5, V5⟩
  iapply (run18 M1 h1 M2 h2 x K c g bt _ _) $$ [$Hrec $Hlev $HO $S5 $R3 $R4]
  iintro ⟨HO, P5, S5, R3, R4, V3, V4⟩
  iapply (run19 M1 h1 M2 h2 x K c g bt _) $$ [$P3 $P4 $P5 $V3 $V4 $V5]
  iintro ⟨A1, V3, V4, V5⟩
  iapply (run20 M1 h1 M2 h2 x K c g bt _ _) $$ [$Hrec $HO $A1 $L9 $L10 $L11 $S9 $S10 $S11]
  iintro ⟨HO, S9, S10, S11⟩
  iapply (run21 M1 h1 M2 h2 x K c g bt _) $$ [$Hrec $Hlev $HO $S6 $R8]
  iintro ⟨HO, P6, S6, R8, V8⟩
  iapply (run22 M1 h1 M2 h2 x K c g bt _) $$ [$Hrec $Hlev $HO $S7 $S8 $R7]
  iintro ⟨HO, P7, P8, S7, S8, R7, V7⟩
  iapply (run23 M1 h1 M2 h2 x K c g bt _) $$ [$Hrec $Hlev $HO $P6 $P7 $P8 $R6 $V7 $V8]
  iintro ⟨HO, A0, R6, V6, V7, V8⟩
  iapply (run24 M1 h1 M2 h2 x K c g bt) $$ [$XB0 $XB1 $A0 $Hg $Hb $O0]
  iintro ⟨XB0, XB1, A0, Hg, Hb, O0⟩
  iapply (run25 M1 h1 M2 h2 x K c g bt) $$ [$XB2 $XB3 $O1 $O2]
  iintro ⟨XB2, XB3, O1, O2⟩
  iapply (run26 M1 h1 M2 h2 x K c g bt _) $$ [$Hrec $Hlev $HO $S9 $O3]
  iintro %r ⟨HO, P9, S9, O3⟩
  iapply (run27 M1 h1 M2 h2 x K c g bt _ _) $$ [$Hrec $Hlev $HO $S10 $R10 $R11]
  iintro ⟨HO, P10, S10, R10, R11, V10, V11⟩
  iapply (run28 M1 h1 M2 h2 x K c g bt _) $$ [$Hrec $Hlev $HO $P9 $P10 $S11 $R9]
  iintro ⟨HO, A1, S11, R9, V9⟩
  iapply (run29 M1 h1 M2 h2 x K c g bt _ _ _ _ _ _) $$ [$Hrec $HO $A1 $V10 $V11 $E0 $E1 $E2 $E3 $E4 $E5]
  iintro ⟨HO, A1, V10, V11⟩
  iapply (run30 M1 h1 M2 h2 x K c g bt) $$ [$XB4 $A1 $Hg $Hb $O4]
  iintro ⟨XB4, A1, Hg, Hb, O4⟩
  iapply (run31 M1 h1 M2 h2 x K c g bt) $$ [$XB5 $XB6 $O4 $O5 $O6]
  iintro ⟨XB5, XB6, O4, O5, O6⟩
  iapply (run32 M1 h1 M2 h2 x K c g bt) $$ [$Hlev $HO $XB7 $O0 $O1 $O6 $O7]
  iintro ⟨HO, XB7, O0, O1, O6, O7⟩
  iapply (t_wait_out c 2 (outV x g bt c 2)) $$ [$Hlev $HO $O2]
  iintro ⟨HO, O2⟩
  iapply (t_wait_out c 3 (outV x g bt c 3)) $$ [$Hlev $HO $O3]
  iintro ⟨HO, O3⟩
  iapply (t_wait_out c 4 (outV x g bt c 4)) $$ [$Hlev $HO $O4]
  iintro ⟨HO, O4⟩
  rw [wp_ret]
  imodintro
  iapply Hk
  iframe

theorem run_body (M1 : Memref sig .tc .vmem S1024 .f32) (h1 : M1.IsWhole) (M2 : Memref sig .tc .vmem S1024 .f32) (h2 : M2.IsWhole)
    (x : Dev nD → Vec F S2048x1024 .f32) (K : Dev nD × Fin 26 → ℕ) (c : Dev nD) (g bt : Vec F S1024 .f32)
    {Φ : PUnit → sProp 𝕄} :
    iprop(records (Acc x) K ∗ levAts L lv ∗ ow 24 c ∗ bigSep Finset.univ (fun j : Fin 6 => barR (F := F) j c) ∗ barW (F := F) c
       ∗ bigSep Finset.univ (fun b : Fin 8 => inR b c (x c)) ∗ accPart 0 c (sumsOf 0 (x c)) 0 ∗ accPart 1 c (sumsOf 1 (x c)) 0
       ∗ bigSep Finset.univ (fun n : Fin 12 => sndR (F := F) n c) ∗ bigSep Finset.univ (fun n : Fin 12 => rcvW (F := F) n c)
       ∗ gAt M1 c g ∗ gAt M2 c bt ∗ bigSep Finset.univ (fun b : Fin 8 => outR (F := F) b c)
       ∗ bigSep Finset.univ (fun j : Fin 6 => exitR (F := F) j c) ∗ exitW (F := F) c)
    ⊢ iprop(((ow 0 c ∗ rest (barCell c) ∗ bigSep Finset.univ (fun b : Fin 8 => inZ b c (x c))
       ∗ bigSep Finset.univ (fun b : Fin 8 => xbAt b c (blk b (x c))) ∗ accAt 0 c fullShare (Tot x 0 c)
       ∗ accAt 1 c fullShare (Tot x 1 c) ∗ bigSep Finset.univ (fun n : Fin 12 => rest (sendCell n c))
       ∗ bigSep Finset.univ (fun n : Fin 12 => rest (recvCell n c)) ∗ bigSep Finset.univ (fun n : Fin 12 => rcvP x n c)
       ∗ gAt M1 c g ∗ gAt M2 c bt ∗ bigSep Finset.univ (fun b : Fin 8 => outZ b c (outV x g bt c b)) ∗ rest (exitCell c))
        -∗ Φ ⟨⟩)
      -∗ go c (kp M1 h1 M2 h2 (cc0_body (F := F))) Φ) := by
  simp only [go, kp, cc0_body_eq_skeleton, cc0_body_skel, semSignalWord, semWaitWord, Prog.lift, Prog.bind_op, Prog.bind_ret, Prog.pure_eq_ret, wp_bind]
  iintro ⟨#Hrec, #Hlev, HO, J, W, I, A0, A1, S, R, Hg, Hb, O, E, Z⟩ Hk
  iapply (run33 M1 h1 M2 h2 x K c g bt) $$ [$Hrec $Hlev $HO $J $W $I $A0 $A1 $S $R $Hg $Hb $O $E]
  iintro ⟨HO, W, I, XB, A0, A1, S, R, V, Hg, Hb, O0, O1, O2, O3, O4, O5, O6, O7⟩
  iapply (t_wait_out c 5 (outV x g bt c 5)) $$ [$Hlev $HO $O5]
  iintro ⟨HO, O5⟩
  iapply (t_wait_out c 6 (outV x g bt c 6)) $$ [$Hlev $HO $O6]
  iintro ⟨HO, O6⟩
  iapply (t_wait_out c 7 (outV x g bt c 7)) $$ [$Hlev $HO $O7]
  iintro ⟨HO, O7⟩
  iapply (t_wait_exit x K c 6 rfl) $$ [$Hrec $Hlev $HO $Z]
  iintro ⟨HO, Z⟩
  rw [wp_ret, sep8 (fun b : Fin 8 => outZ b c (outV x g bt c b))]
  imodintro
  iapply Hk
  iframe

end Cert.Norm

end
-- ==== Proof.Norm.Deal.lean ====
/-
# What the launch hands out

Before the devices start, every semaphore of the protocol gets its invariant, and the rights to pay into it go to the
devices that will pay: a device gets one right per payment of its own. The credit of the payments that a device waits
for comes to it from what the others owe.
-/
module

public import proofs.«01_k».proof.Proof.Norm.Take

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The protocol's semaphores, kind by kind -/

/-- A barrier, an exit, twelve sends, twelve receives. -/
abbrev Kx : Type := (Unit ⊕ Unit) ⊕ (Fin 12 ⊕ Fin 12)
def ixK : Kx → Fin 26
  | .inl (.inl _) => 0
  | .inl (.inr _) => 1
  | .inr (.inl n) => ixS n
  | .inr (.inr n) => ixR n
theorem ixK_bij : Function.Bijective ixK := by decide

theorem over_cells (Φ : GSem nD τ sig → sProp 𝕄) (c : Dev nD) :
    bigSep Finset.univ (fun k : Fin 26 => Φ (kcell (c, k)))
      = iprop((Φ (barCell c) ∗ Φ (exitCell c)) ∗ bigSep Finset.univ (fun n : Fin 12 => Φ (sendCell n c)) ∗ bigSep Finset.univ fun n : Fin 12 => Φ (recvCell n c)) := by
  rw [bigSep_univ_equiv (Equiv.ofBijective ixK ixK_bij), bigSep_univ_sum, bigSep_univ_sum, bigSep_univ_sum,
    bigSep_univ_of_subsingleton (), bigSep_univ_of_subsingleton ()]
  have hs : (fun n : Fin 12 => Φ (kcell (c, (Equiv.ofBijective ixK ixK_bij) (.inr (.inl n))))) = fun n => Φ (sendCell n c) :=
    funext fun n => congrArg Φ (kcell_send n c)
  have hr : (fun n : Fin 12 => Φ (kcell (c, (Equiv.ofBijective ixK ixK_bij) (.inr (.inr n))))) = fun n => Φ (recvCell n c) :=
    funext fun n => congrArg Φ (kcell_recv n c)
  rw [hs, hr]
  rfl

theorem kcell_injective : Function.Injective kcell := by
  rintro ⟨c, k⟩ ⟨c', k'⟩ h
  have h1 : c = c' := congrArg (fun g : GSem nD τ sig => g.1.1) h
  subst h1
  have h2 : csem k = csem k' := congrArg Prod.snd h
  have hi : Function.Injective csem := by decide
  rw [hi h2]
def ringCells : Finset (GSem nD τ sig) := Finset.univ.map ⟨kcell, kcell_injective⟩

/-! ## The rights to pay, by the device that pays -/

/-- Six barrier units, six exit units, twelve sends, each paid on the sender's and on the receiver's side. -/
abbrev Tx : Type := (Fin 6 ⊕ Fin 6) ⊕ (Fin 12 ⊕ Fin 12)
def tokOf (p : Dev nD × Tx) : GSem nD τ sig × ℕ × Fin 6 :=
  match p.2 with
  | .inl (.inl j) => (barCell (part j p.1), 0, j)
  | .inl (.inr j) => (exitCell (part j p.1), 0, j)
  | .inr (.inl n) => (sendCell n p.1, 0, 0)
  | .inr (.inr n) => (recvCell (mir n) (pd n p.1), 0, 0)

theorem part_inj (j : Fin 6) : Function.Injective (part j) := fun a b h => by rw [← part_rv j a, h, part_rv]
theorem sendS_inj {n n' : Fin 12} (h : sendS n = sendS n') : n = n' := by
  have h1 := sendS_val n; have h2 := sendS_val n'; rw [h] at h1; exact Fin.ext (by omega)
theorem recvS_inj {n n' : Fin 12} (h : recvS n = recvS n') : n = n' := by
  have h1 := recvS_val n; have h2 := recvS_val n'; rw [h] at h1; exact Fin.ext (by omega)
theorem sendS_ne_recvS (n n' : Fin 12) : sendS n ≠ recvS n' := fun h => by
  have h1 := sendS_val n; have h2 := recvS_val n'; rw [h] at h1; omega
theorem mir_inj {n n' : Fin 12} (h : mir n = mir n') : n = n' := by rw [← mir_mir n, h, mir_mir]

theorem tokOf_injective : Function.Injective tokOf := by
  rintro ⟨c, i⟩ ⟨c', i'⟩ h
  have hd : (tokOf (c, i)).1.1.1 = (tokOf (c', i')).1.1.1 := by rw [h]
  have hs : (tokOf (c, i)).1.2 = (tokOf (c', i')).1.2 := by rw [h]
  have hj : (tokOf (c, i)).2.2 = (tokOf (c', i')).2.2 := by rw [h]
  rcases i with (j | j) | (n | n) <;> rcases i' with (j' | j') | (n' | n')
  · obtain rfl : j = j' := hj
    obtain rfl := part_inj j (show part j c = part j c' from hd)
    rfl
  · exact absurd (SemLoc.reg.inj hs).symm exit_ne_bar
  · exact absurd hs (fun e => by cases e)
  · exact absurd hs (fun e => by cases e)
  · exact absurd (SemLoc.reg.inj hs) exit_ne_bar
  · obtain rfl : j = j' := hj
    obtain rfl := part_inj j (show part j c = part j c' from hd)
    rfl
  · exact absurd hs (fun e => by cases e)
  · exact absurd hs (fun e => by cases e)
  · exact absurd hs (fun e => by cases e)
  · exact absurd hs (fun e => by cases e)
  · obtain rfl : n = n' := sendS_inj (SemLoc.dma.inj hs)
    obtain rfl : c = c' := hd
    rfl
  · exact absurd (SemLoc.dma.inj hs) (sendS_ne_recvS _ _)
  · exact absurd hs (fun e => by cases e)
  · exact absurd hs (fun e => by cases e)
  · exact absurd (SemLoc.dma.inj hs).symm (sendS_ne_recvS _ _)
  · obtain rfl : n = n' := mir_inj (recvS_inj (SemLoc.dma.inj hs))
    obtain rfl := part_inj (jN n) (show part (jN n) c = part (jN n) c' from hd)
    rfl
def ringToks : Finset (GSem nD τ sig × ℕ × Fin 6) := Finset.univ.map ⟨tokOf, tokOf_injective⟩

/-- The rights of device `c`. -/
def toks (c : Dev nD) : sProp 𝕄 :=
  iprop((bigSep Finset.univ (fun j : Fin 6 => dutyTok ER (barCell (part j c)) 0 j) ∗ bigSep Finset.univ (fun j : Fin 6 => exitR j c))
    ∗ bigSep Finset.univ (fun n : Fin 12 => dutyTok ER (sendCell n c) 0 0) ∗ bigSep Finset.univ (fun n : Fin 12 => dutyTok ER (recvCell (mir n) (pd n c)) 0 0))

variable (A : Fin 2 → Fin 2 → Dev nD → Vec F S2x1024 .f32)

/-! ## Before and after the invariants are made -/

/-- A device's semaphores' books, its places in them, and its rights. -/
def dealt (c : Dev nD) : sProp 𝕄 :=
  iprop((bigSep Finset.univ fun k : Fin 26 => roundState ER (sched A) (kcell (c, k)) 0)
    ∗ (bigSep Finset.univ fun k : Fin 26 => iprop(atPos ER (kcell (c, k)) 0 ∅ 0 ∗ reached ER (kcell (c, k)) 0)) ∗ toks c)

theorem fund_ring : BI.own (ER (initOf ringCells ringToks)) ⊢ (|==> bigSep Finset.univ (dealt A) : sProp 𝕄) := by
  have hX (Φ : GSem nD τ sig → sProp 𝕄) : bigSep ringCells Φ = bigSep Finset.univ fun c : Dev nD => bigSep Finset.univ fun k : Fin 26 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum, bigSep_univ_sum]
    rfl
  iintro HX
  imod (Rounds.fund ER (sched A) ringCells ringToks) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt
  simp only [bigSep_sep']
  isplitl [Hst']; · iexact Hst'
  isplitl [Hat' Hr']
  · isplitl [Hat'] <;> iassumption
  iexact Htok'

/-- The kernel's own semaphores: the exit, the sends', the receives', those of the copies in and of the copies out. -/
abbrev Ox : Type := (Unit ⊕ (Fin 12 ⊕ Fin 12)) ⊕ (Fin 8 ⊕ Fin 8)
def osem : Ox → SemLoc sig
  | .inl (.inl _) => .reg exitS
  | .inl (.inr (.inl n)) => .dma (sendS n)
  | .inl (.inr (.inr n)) => .dma (recvS n)
  | .inr (.inl b) => .dma (inS b)
  | .inr (.inr b) => .dma (outS b)
/-- Their numbers. -/
def onum : Ox → ℕ
  | .inl (.inl _) => 0
  | .inl (.inr (.inl n)) => n.val + 2
  | .inl (.inr (.inr n)) => n.val + 14
  | .inr (.inl b) => b.val + 26
  | .inr (.inr b) => b.val + 34
def snum : SemLoc sig → ℕ
  | .reg _ => 0
  | .dma q => q.val
theorem snum_osem (k : Ox) : snum (osem k) = onum k := by
  rcases k with (u | n | n) | (b | b)
  · rfl
  · exact sendS_val n
  · exact recvS_val n
  · exact inS_val b
  · exact outS_val b
theorem onum_inj : Function.Injective onum := by decide
theorem ownSemFacts : Pipeline.OwnSemFacts cfg0.spec osem where
  isScoped := by
    rintro ((u | n | n) | (b | b))
    · cases u; decide
    · revert n; decide +kernel
    · revert n; decide +kernel
    · revert b; decide +kernel
    · revert b; decide +kernel
  inj a b h := onum_inj (by rw [← snum_osem, ← snum_osem, h])
  disj k w s h := by
    have hw : ∀ (w : Fin cfg0.W) (s : Fin (cfg0.spec w).nbuf), ((cfg0.spec w).sem s).val < 2 := by decide
    have hw := hw w s
    have h2 : onum k = ((cfg0.spec w).sem s).val := by rw [← snum_osem, h]; rfl
    rcases k with (u | n | n) | (b | b)
    · exact absurd h (fun e => by cases e)
    all_goals (simp only [onum] at h2; omega)

/-- The semaphores of the copies in and out, at zero. -/
def copySems (c : Dev nD) : sProp 𝕄 :=
  iprop(bigSep Finset.univ (fun b : Fin 8 => semVal ((c : Thread nD τ), .dma (inS b)) 0)
    ∗ bigSep Finset.univ (fun b : Fin 8 => semVal ((c : Thread nD τ), .dma (outS b)) 0))

theorem ownSems0_eq (c : Dev nD) : (Pipeline.ownSems0 (Ix := Unit) (Name := ℕ) (U := UU) (Lvl := ℕ) (Val := Elt F) (τ := τ) osem c : sProp 𝕄)
    = iprop((semVal (exitCell c) 0 ∗ bigSep Finset.univ (fun n : Fin 12 => semVal (sendCell n c) 0) ∗ bigSep Finset.univ (fun n : Fin 12 => semVal (recvCell n c) 0))
        ∗ copySems c) := by
  unfold Pipeline.ownSems0
  rw [bigSep_univ_sum, bigSep_univ_sum, bigSep_univ_sum, bigSep_univ_sum, bigSep_univ_of_subsingleton ()]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 26 => semVal (kcell (c, k)) 0) ∗ copySems c) : sProp 𝕄) := by
  rw [ownSems0_eq, unscopedSems0_eq, over_cells (fun g => semVal g 0)]
  iintro ⟨⟨⟨HE, HS, HV⟩, HC⟩, HB⟩
  isplitr [HC]
  · isplitl [HB HE]
    · isplitl [HB] <;> iassumption
    · isplitl [HS] <;> iassumption
  · iexact HC

theorem core_alloc (c : Dev nD) :
    iprop(Pipeline.ownSems0 (Ix := Unit) (Name := ℕ) (U := UU) (Lvl := ℕ) (Val := Elt F) (τ := τ) osem c ∗ unscopedSems0 c ∗ dealt A c)
      ⊢ |={Set.univ}=> iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ toks c ∗ copySems c) := by
  unfold dealt
  iintro ⟨Hos, Hus, Hst, Hat, Htok⟩
  ihave Hv := (sems0_eq (F := F) c) $$ [Hos Hus]
  · isplitl [Hos] <;> iassumption
  icases Hv with ⟨Hv, HC⟩
  imod (show iprop((bigSep Finset.univ fun k : Fin 26 => semVal (kcell (c, k)) 0) ∗ bigSep Finset.univ fun k : Fin 26 => roundState ER (sched A) (kcell (c, k)) 0)
      ⊢ (|={Set.univ}=> bigSep Finset.univ fun k => iprop(∃ κ : ℕ, cellInv ER (sched A) κ (kcell (c, k))) : sProp 𝕄) from by
        rw [← bigSep_sep']
        exact (bigSep_mono fun k _ => (Rounds.body_intro ER (sched A) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What device `c` starts from: the invariants, its places, its rights, and the copies' semaphores. -/
def ghost (c : Dev nD) : sProp 𝕄 :=
  iprop(∃ K, records A K ∗ (bigSep Finset.univ fun k : Fin 26 => atPos ER (kcell (c, k)) 0 ∅ 0) ∗ toks c ∗ copySems c)

theorem regroup :
    (bigSep Finset.univ fun c : Dev nD => iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ toks c ∗ copySems c) : sProp 𝕄)
      ⊢ bigSep Finset.univ (ghost A) := by
  rw [bigSep_sep', bigSep_sep', bigSep_sep', ← bigSep_univ_prod (fun ck : Dev nD × Fin 26 => iprop(∃ κ : ℕ, cellInv ER (sched A) κ (kcell ck))),
    bigSep_congr (s := Finset.univ) (fun (c : Dev nD) _ => bigSep_sep' Finset.univ (fun k : Fin 26 => (atPos ER (kcell (c, k)) 0 ∅ 0 : sProp 𝕄)) (fun k => reached ER (kcell (c, k)) 0)),
    bigSep_sep', ← bigSep_univ_prod (fun ck : Dev nD × Fin 26 => (reached ER (kcell ck) 0 : sProp 𝕄))]
  iintro ⟨HI, ⟨Hat, #HR⟩, Htok⟩
  ihave HK := (BI.bigSep_exists_pi Finset.univ (fun (ck : Dev nD × Fin 26) (κ : ℕ) => (cellInv ER (sched A) κ (kcell ck) : sProp 𝕄))) $$ HI
  icases HK with ⟨%K, #HI⟩
  have step : iprop(records A K ∗ (bigSep Finset.univ fun c : Dev nD => bigSep Finset.univ fun k : Fin 26 => (atPos ER (kcell (c, k)) 0 ∅ 0 : sProp 𝕄))
      ∗ bigSep Finset.univ (fun c : Dev nD => toks c) ∗ bigSep Finset.univ (fun c : Dev nD => copySems c)) ⊢ bigSep Finset.univ (ghost A) := by
    rw [← bigSep_sep', ← bigSep_sep']
    refine (sep_mono_left (BI.bigSep_of_persistent (Finset.univ : Finset (Dev nD)) (records A K))).trans ?_
    rw [← bigSep_sep']
    refine bigSep_mono fun c _ => ?_
    refine (show iprop(records A K ∗ (bigSep Finset.univ fun k : Fin 26 => (atPos ER (kcell (c, k)) 0 ∅ 0 : sProp 𝕄)) ∗ toks c ∗ copySems c) ⊢ ghost A c from ?_)
    unfold ghost
    iintro H
    iexists K
    iexact H
  iapply step
  isplitr
  · unfold records
    simp only [bigSep_sep']
    isplitl; · iexact HI
    iexact HR
  · isplitl [Hat] <;> iassumption

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ dealt A c) : sProp 𝕄)
    ⊢ |={Set.univ}=> bigSep Finset.univ (ghost A) :=
  ((bigSep_mono fun c _ => core_alloc A c).trans (bigSep_fupd _ _)).trans (BI.fupd_mono (regroup A))

/-! ## The credit that a device waits with -/

/-- The payments' bill. -/
def bill (i : Fin 24) (c : Dev nD) : CellTallies nD τ sig Unit := tallyAt (payCell i c) () (payAmount i)
theorem owed_sum (c : Dev nD) : owed 24 c = ∑ i : Fin 24, bill i c := by
  have h : ∀ k : ℕ, k ≤ 24 → owed k c = ∑ i ∈ Finset.univ.filter (fun i : Fin 24 => 24 - k ≤ i.val), bill i c := by
    intro k
    induction k with
    | zero =>
      intro _
      rw [show Finset.univ.filter (fun i : Fin 24 => 24 - 0 ≤ i.val) = ∅ by decide]
      rfl
    | succ k ih =>
      intro hk
      have e : Finset.univ.filter (fun i : Fin 24 => 24 - (k + 1) ≤ i.val)
          = insert (Fin.ofNat 24 (23 - k)) (Finset.univ.filter (fun i : Fin 24 => 24 - k ≤ i.val)) := by
        ext i
        simp only [Finset.mem_filter, Finset.mem_univ, true_and, Finset.mem_insert, Fin.ext_iff, Fin.ofNat]
        have := i.isLt
        omega
      rw [e, Finset.sum_insert (by
        simp only [Finset.mem_filter, Finset.mem_univ, true_and, Fin.ofNat]
        omega), add_comm (bill _ c)]
      exact congrArg (· + bill (Fin.ofNat 24 (23 - k)) c) (ih (by omega))
  have h24 := h 24 le_rfl
  rwa [show Finset.univ.filter (fun i : Fin 24 => 24 - 24 ≤ i.val) = Finset.univ by decide] at h24

/-- The device that the `i`-th payment goes to, and the semaphore there. -/
def payPart (i : Fin 24) : Fin 6 :=
  if h : i.val < 6 then ⟨i.val, h⟩ else if h' : i.val < 18 then jN ⟨i.val - 6, by omega⟩ else ⟨i.val - 18, by omega⟩
def paySem (i : Fin 24) : SemLoc sig :=
  if h : i.val < 6 then .reg barS else if h' : i.val < 18 then .dma (recvS (mir ⟨i.val - 6, by omega⟩)) else .reg exitS
theorem payCell_eq (i : Fin 24) (c : Dev nD) : payCell i c = ((part (payPart i) c : Thread nD τ), paySem i) := by
  unfold payCell payPart paySem
  split
  · rfl
  · split <;> rfl

theorem bill_cred (i : Fin 24) (c : Dev nD) :
    (Pipeline.launchCred (bill i) c : sProp 𝕄) ⊢ cred (tallyAt ((c : Thread nD τ), paySem i) () (payAmount i)) := by
  rw [show bill i = fun d => tallyAt ((part (payPart i) d : Thread nD τ), paySem i) () (payAmount i) from
    funext fun d => by unfold bill; rw [payCell_eq]]
  exact Pipeline.launchCred_tallyAt (paySem i) (part (payPart i)) (part (rv (payPart i))) (fun c => part_rv' _ c) (fun d => part_rv _ d) () (payAmount i) c

/-- The 24 payments: six, twelve, six. -/
def ixP : (Fin 6 ⊕ Fin 12) ⊕ Fin 6 → Fin 24
  | .inl (.inl j) => ⟨j.val, by omega⟩
  | .inl (.inr n) => ⟨(mir n).val + 6, by omega⟩
  | .inr j => ⟨j.val + 18, by omega⟩
theorem ixP_bij : Function.Bijective ixP := by decide

theorem cred_units (g : GSem nD τ sig) : bigSep Finset.univ (fun _ : Fin 6 => (cred (tallyAt g () 1) : sProp 𝕄)) ⊢ cred (tallyAt g () 6) := by
  rw [← Pipeline.cred_finsetSum]
  refine Entails.of_eq (congrArg cred ?_)
  refine funext fun g' => Finsupp.ext fun u => ?_
  rw [Finset.sum_apply, Finsupp.finsetSum_apply, tallyAt_apply, tallyAt_apply]
  rw [Finset.sum_const, Finset.card_univ, Fintype.card_fin]
  split <;> rfl

theorem creds (c : Dev nD) : (Pipeline.launchCred (owed 24) c : sProp 𝕄)
    ⊢ iprop(cred (tallyAt (barCell c) () 6) ∗ bigSep Finset.univ (fun n : Fin 12 => cred (tallyAt (recvCell n c) () N)) ∗ cred (tallyAt (exitCell c) () 6)) := by
  have hb (j : Fin 6) : (Pipeline.launchCred (bill (ixP (.inl (.inl j)))) c : sProp 𝕄) ⊢ cred (tallyAt (barCell c) () 1) := by
    refine (bill_cred _ c).trans (Entails.of_eq ?_)
    fin_cases j <;> rfl
  have hr (n : Fin 12) : (Pipeline.launchCred (bill (ixP (.inl (.inr n)))) c : sProp 𝕄) ⊢ cred (tallyAt (recvCell n c) () N) := by
    refine (bill_cred _ c).trans (Entails.of_eq ?_)
    fin_cases n <;> rfl
  have he (j : Fin 6) : (Pipeline.launchCred (bill (ixP (.inr j))) c : sProp 𝕄) ⊢ cred (tallyAt (exitCell c) () 1) := by
    refine (bill_cred _ c).trans (Entails.of_eq ?_)
    fin_cases j <;> rfl
  rw [show owed 24 = fun d => ∑ i : Fin 24, bill i d from funext owed_sum, Pipeline.launchCred_sum,
    bigSep_univ_equiv (Equiv.ofBijective ixP ixP_bij), bigSep_univ_sum, bigSep_univ_sum]
  refine (show iprop((bigSep Finset.univ (fun j : Fin 6 => Pipeline.launchCred (bill (ixP (.inl (.inl j)))) c) ∗ bigSep Finset.univ (fun n : Fin 12 => Pipeline.launchCred (bill (ixP (.inl (.inr n)))) c))
    ∗ bigSep Finset.univ (fun j : Fin 6 => Pipeline.launchCred (bill (ixP (.inr j))) c)) ⊢ _ from ?_)
  iintro ⟨⟨H1, H2⟩, H3⟩
  isplitl [H1]
  · iapply (cred_units (F := F) (barCell c))
    iapply (show bigSep Finset.univ (fun j : Fin 6 => (Pipeline.launchCred (bill (ixP (.inl (.inl j)))) c : sProp 𝕄)) ⊢ bigSep Finset.univ (fun _ : Fin 6 => cred (tallyAt (barCell c) () 1)) from bigSep_mono fun j _ => hb j)
    iexact H1
  isplitl [H2]
  · iapply (show bigSep Finset.univ (fun n : Fin 12 => (Pipeline.launchCred (bill (ixP (.inl (.inr n)))) c : sProp 𝕄)) ⊢ bigSep Finset.univ (fun n : Fin 12 => cred (tallyAt (recvCell n c) () N)) from bigSep_mono fun n _ => hr n)
    iexact H2
  · iapply (cred_units (F := F) (exitCell c))
    iapply (show bigSep Finset.univ (fun j : Fin 6 => (Pipeline.launchCred (bill (ixP (.inr j))) c : sProp 𝕄)) ⊢ bigSep Finset.univ (fun _ : Fin 6 => cred (tallyAt (exitCell c) () 1)) from bigSep_mono fun j _ => he j)
    iexact H3

/-- What a device's run of the kernel takes from all this. -/
def kit (c : Dev nD) : sProp 𝕄 :=
  iprop(bigSep Finset.univ (fun j : Fin 6 => dutyTok ER (barCell (part j c)) 0 j) ∗ barW c
    ∗ bigSep Finset.univ (fun n : Fin 12 => sndR n c) ∗ bigSep Finset.univ (fun n : Fin 12 => rcvW n c)
    ∗ bigSep Finset.univ (fun j : Fin 6 => exitR j c) ∗ exitW c)

theorem kit_intro (c : Dev nD) :
    iprop((bigSep Finset.univ fun k : Fin 26 => atPos ER (kcell (c, k)) 0 ∅ 0) ∗ toks c ∗ Pipeline.launchCred (owed 24) c) ⊢ (kit c : sProp 𝕄) := by
  rw [over_cells (fun g => atPos ER g 0 ∅ 0)]
  unfold toks kit sndR rcvW barW exitW
  simp only [bigSep_sep']
  iintro ⟨⟨⟨HaB, HaE⟩, HaS, HaR⟩, ⟨⟨HtB, HtE⟩, HtS, HtR⟩, Hc⟩
  ihave Hc := (creds (F := F) c) $$ Hc
  icases Hc with ⟨HcB, HcR, HcE⟩
  isplitl [HtB]; · iexact HtB
  isplitl [HcB HaB]
  · isplitl [HcB] <;> iassumption
  isplitl [HtS HtR HaS]
  · isplitl [HtS]; · iexact HtS
    isplitl [HtR] <;> iassumption
  isplitl [HcR HaR]
  · isplitl [HcR] <;> iassumption
  isplitl [HtE]; · iexact HtE
  isplitl [HcE] <;> iassumption

end Cert.Norm

end
-- ==== Proof.Norm.Buffers.lean ====
/-
# Buffers, whole and in pieces

The kernel works on pieces of its buffers: eight blocks of the input, of its copy, of the output and of its copy; two
halves of the accumulator; twelve slots of the partners' scratch. Each family of pieces is disjoint and covers its
buffer, so a buffer held whole is its pieces held one by one, and back.
-/
module

public import proofs.«01_k».proof.Proof.Norm.Take
public import Idealize.ShloMosaic.Lib.Ring

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any family of pieces -/

theorem split_any {ℓ : Loc nD τ sig} {B : Type} [Fintype B] [DecidableEq B] (I : B → Finset (Idx ℓ))
    (hd : ∀ b b', b ≠ b' → Disjoint (I b) (I b')) (hc : Finset.univ.biUnion I = Finset.univ) :
    iprop(∃ f : Buf (Elt F) ℓ,  ℓ ↦{fullShare} f) ⊢ (bigSep Finset.univ fun b => iprop(∃ f : Buf (Elt F) ℓ,  ℓ ↦[I b]{fullShare} f) : sProp 𝕄) := by
  iintro ⟨%f, H⟩
  ihave H := (Entails.of_eq (Ring.pointsTo_blocks I hd hc f)) $$ H
  iapply (show (bigSep Finset.univ fun b => (ℓ ↦[I b]{fullShare} f : sProp 𝕄)) ⊢ (bigSep Finset.univ fun b => iprop(∃ f : Buf (Elt F) ℓ,  ℓ ↦[I b]{fullShare} f)) from
    bigSep_mono fun b _ => by
      refine (show (ℓ ↦[I b]{fullShare} f : sProp 𝕄) ⊢ iprop(∃ f : Buf (Elt F) ℓ,  ℓ ↦[I b]{fullShare} f) from ?_)
      iintro H
      iexists f
      iexact H)
  iexact H

/-! ## Blocks of 256 rows -/

abbrev rectB (b : Fin 8) : Rect S2048x1024 := Rect.unit (s := S2048x1024) (offB b) S256x1024.size (inbB b)
theorem rectB_disj (b b' : Fin 8) (h : b ≠ b') : Disjoint (rectB b).set (rectB b').set :=
  Ring.lead_disjoint (s := S2048x1024) 0 256 offB S256x1024.size inbB offB_0 rfl b b' h
theorem rectB_cover : Finset.univ.biUnion (fun b => (rectB b).set) = Finset.univ :=
  Ring.lead_cover (s := S2048x1024) 0 256 offB S256x1024.size inbB offB_0 (by decide) rfl (by decide) rfl

theorem xM_set (b : Fin 8) : (xM b).view.set = (rectB b).set := View.set_slice_whole _ _
theorem xbM_set (b : Fin 8) : (xbM b).view.set = (rectB b).set := View.set_slice_whole _ _
theorem obM_set (b : Fin 8) : (obM b).view.set = (rectB b).set := View.set_slice_whole _ _
theorem oM_set (b : Fin 8) : (oM b).view.set = (rectB b).set := View.set_slice_whole _ _

variable (c : Dev nD)

/-- The input. -/
theorem x_blocks (f : Vec F S2048x1024 .f32) :
    ((c : Thread nD τ).loc main_arg0 ↦{fullShare} f : sProp 𝕄) = bigSep Finset.univ fun b : Fin 8 => xAt b c f := by
  refine (Ring.pointsTo_blocks (ℓ := (c : Thread nD τ).loc main_arg0) (fun b : Fin 8 => (rectB b).set) rectB_disj rectB_cover f).trans (bigSep_congr fun b _ => ?_)
  unfold xAt
  rw [xM_set]
/-- Its copy, before and after. -/
theorem xb_split : iprop(∃ f : Buf (Elt F) ((c : Thread nD τ).loc cc0_scratch0), (c : Thread nD τ).loc cc0_scratch0 ↦{fullShare} f)
    ⊢ (bigSep Finset.univ fun b : Fin 8 => xbAny b c : sProp 𝕄) := by
  refine (split_any (ℓ := (c : Thread nD τ).loc cc0_scratch0) (fun b : Fin 8 => (rectB b).set) rectB_disj rectB_cover).trans
    (Entails.of_eq (bigSep_congr fun b _ => ?_))
  unfold xbAny
  rw [xbM_set]
theorem xb_join (X : Fin 8 → Vec F S256x1024 .f32) : (bigSep Finset.univ fun b : Fin 8 => xbAt b c (X b) : sProp 𝕄)
    ⊢ iprop(∃ f : Buf (Elt F) ((c : Thread nD τ).loc cc0_scratch0), (c : Thread nD τ).loc cc0_scratch0 ↦{fullShare} f) := by
  refine (Entails.of_eq (bigSep_congr fun b _ => ?_)).trans
    (Ring.pointsTo_blocks_join (fun b : Fin 8 => (rectB b).set) rectB_disj rectB_cover
      (fun b => (xbM b).view.rep (X b)) ((xbM 0).view.rep (X 0)))
  unfold xbAt
  rw [xbM_set]
/-- The output's copy, before and after. -/
theorem ob_split : iprop(∃ f : Buf (Elt F) ((c : Thread nD τ).loc cc0_scratch1), (c : Thread nD τ).loc cc0_scratch1 ↦{fullShare} f)
    ⊢ (bigSep Finset.univ fun b : Fin 8 => obAny b c : sProp 𝕄) := by
  refine (split_any (ℓ := (c : Thread nD τ).loc cc0_scratch1) (fun b : Fin 8 => (rectB b).set) rectB_disj rectB_cover).trans
    (Entails.of_eq (bigSep_congr fun b _ => ?_))
  unfold obAny
  rw [obM_set]
theorem ob_join (Y : Fin 8 → Vec F S256x1024 .bf16) : (bigSep Finset.univ fun b : Fin 8 => obAt b c (Y b) : sProp 𝕄)
    ⊢ iprop(∃ f : Buf (Elt F) ((c : Thread nD τ).loc cc0_scratch1), (c : Thread nD τ).loc cc0_scratch1 ↦{fullShare} f) := by
  refine (Entails.of_eq (bigSep_congr fun b _ => ?_)).trans
    (Ring.pointsTo_blocks_join (fun b : Fin 8 => (rectB b).set) rectB_disj rectB_cover
      (fun b => (obM b).view.rep (Y b)) ((obM 0).view.rep (Y 0)))
  unfold obAt
  rw [obM_set]
/-- The output, before; and after, when its contents are known block by block. -/
theorem o_split (f : Vec F S2048x1024 .bf16) : ((c : Thread nD τ).loc main_v1 ↦{fullShare} f : sProp 𝕄)
    ⊢ (bigSep Finset.univ fun b : Fin 8 => oAny b c : sProp 𝕄) := by
  refine (show ((c : Thread nD τ).loc main_v1 ↦{fullShare} f : sProp 𝕄) ⊢ iprop(∃ f : Buf (Elt F) ((c : Thread nD τ).loc main_v1), (c : Thread nD τ).loc main_v1 ↦{fullShare} f) from ?_).trans
    ((split_any (ℓ := (c : Thread nD τ).loc main_v1) (fun b : Fin 8 => (rectB b).set) rectB_disj rectB_cover).trans (Entails.of_eq (bigSep_congr fun b _ => ?_)))
  · iintro H
    iexists f
    iexact H
  · unfold oAny
    rw [oM_set]
theorem o_join (Y : Fin 8 → Vec F S256x1024 .bf16) : (bigSep Finset.univ fun b : Fin 8 => oAt b c (Y b) : sProp 𝕄)
    ⊢ iprop(∃ f : Vec F S2048x1024 .bf16, ⌜∀ b, (oM b).view.read (Elt F) f = Y b⌝ ∗ (c : Thread nD τ).loc main_v1 ↦{fullShare} f) := by
  refine (Entails.of_eq (bigSep_congr fun b _ => (show (oAt b c (Y b) : sProp 𝕄) =
    ((c : Thread nD τ).loc main_v1 ↦[(rectB b).set]{fullShare} (oM b).view.rep (Y b)) by unfold oAt; rw [oM_set]))).trans ?_
  refine (pointsTo_biUnion_join (ℓ := (c : Thread nD τ).loc main_v1) Finset.univ (fun b : Fin 8 => (rectB b).set) (fun b => (oM b).view.rep (Y b)) ((oM 0).view.rep (Y 0))
    (fun b _ b' _ h => rectB_disj b b' h)).trans ?_
  refine (Entails.of_eq (congrArg (fun S => iprop(∃ f : Buf (Elt F) ((c : Thread nD τ).loc main_v1), ⌜∀ b ∈ Finset.univ, ∀ i ∈ (rectB b).set, f i = (oM b).view.rep (Y b) i⌝
    ∗ ((c : Thread nD τ).loc main_v1) ↦[S]{fullShare} f)) rectB_cover)).trans ?_
  iintro ⟨%f, %hf, H⟩
  iexists f
  isplitr
  · ipureintro
    intro b
    exact (View.read_congr fun i hi => hf b (Finset.mem_univ _) i (oM_set b ▸ hi)).trans (View.read_rep _ _)
  · iexact H

/-! ## The accumulator's halves -/

abbrev rectC (ch : Fin 2) : Rect S2x2x1024 := Rect.unit (s := S2x2x1024) (offC ch) S1x2x1024.size (inbC ch)
theorem rectC_disj (b b' : Fin 2) (h : b ≠ b') : Disjoint (rectC b).set (rectC b').set :=
  Ring.lead_disjoint (s := S2x2x1024) 0 1 offC S1x2x1024.size inbC (by decide) rfl b b' h
theorem rectC_cover : Finset.univ.biUnion (fun b => (rectC b).set) = Finset.univ :=
  Ring.lead_cover (s := S2x2x1024) 0 1 offC S1x2x1024.size inbC (by decide) (by decide) rfl (by decide) rfl
theorem accM_set (ch : Fin 2) : (accM ch).view.set = (rectC ch).set :=
  (View.set_reshape _ _).trans (View.set_slice_whole _ _)

theorem acc_split (X0 X1 : Vec F S2x1024 .f32) :
    iprop(∃ f : Buf (Elt F) ((c : Thread nD τ).loc cc0_scratch2), (c : Thread nD τ).loc cc0_scratch2 ↦{fullShare} f)
      ⊢ (iprop(accPart 0 c X0 0 ∗ accPart 1 c X1 0) : sProp 𝕄) := by
  iintro ⟨%f, H⟩
  ihave H := (Entails.of_eq (Ring.pointsTo_blocks (fun b : Fin 2 => (rectC b).set) rectC_disj rectC_cover f)) $$ H
  ihave H := (show (bigSep Finset.univ fun b : Fin 2 => (((c : Thread nD τ).loc cc0_scratch2) ↦[(rectC b).set]{fullShare} f : sProp 𝕄))
      ⊢ iprop((((c : Thread nD τ).loc cc0_scratch2) ↦[(rectC 0).set]{fullShare} f) ∗ (((c : Thread nD τ).loc cc0_scratch2) ↦[(rectC 1).set]{fullShare} f)) from
    Entails.of_eq (bigSep_fin_two _)) $$ H
  icases H with ⟨H0, H1⟩
  unfold accPart
  rw [accM_set, accM_set]
  isplitl [H0]
  · iexists f
    isplitr; · ipureintro; intro i hi; exact absurd hi (Nat.not_lt_zero _)
    iexact H0
  · iexists f
    isplitr; · ipureintro; intro i hi; exact absurd hi (Nat.not_lt_zero _)
    iexact H1
theorem acc_join (X0 X1 : Vec F S2x1024 .f32) : (iprop(accAt 0 c fullShare X0 ∗ accAt 1 c fullShare X1) : sProp 𝕄)
    ⊢ iprop(∃ f : Buf (Elt F) ((c : Thread nD τ).loc cc0_scratch2), (c : Thread nD τ).loc cc0_scratch2 ↦{fullShare} f) := by
  refine (Entails.of_eq ?_).trans
    (Ring.pointsTo_blocks_join (fun b : Fin 2 => (rectC b).set) rectC_disj rectC_cover
      (fun b : Fin 2 => (accM b).view.rep (if b = 0 then X0 else X1)) ((accM 0).view.rep X0))
  rw [bigSep_fin_two]
  unfold accAt
  rw [accM_set, accM_set]
  rfl

/-! ## The slots -/

abbrev rectS (n : Fin 12) : Rect S2x2x3x2x1024 := Rect.unit (s := S2x2x3x2x1024) (offS n) S1x1x1x2x1024.size (inbSl n)
theorem offS_0 (n : Fin 12) : offS n 0 = n.val / 6 := by revert n; decide
theorem offS_1 (n : Fin 12) : offS n 1 = n.val / 3 % 2 := by revert n; decide
theorem offS_2 (n : Fin 12) : offS n 2 = n.val % 3 := by revert n; decide
theorem offS_3 (n : Fin 12) : offS n 3 = 0 := by revert n; decide
theorem offS_4 (n : Fin 12) : offS n 4 = 0 := by revert n; decide
theorem mem_rectS (n : Fin 12) (i : S2x2x3x2x1024.Idx) : i ∈ (rectS n).set ↔ n.val = 6 * (i 0).val + 3 * (i 1).val + (i 2).val := by
  have h0 : (i 0).val < 2 := (i 0).isLt
  have h1 : (i 1).val < 2 := (i 1).isLt
  have h2 : (i 2).val < 3 := (i 2).isLt
  have h3 : (i 3).val < 2 := (i 3).isLt
  have h4 : (i 4).val < 1024 := (i 4).isLt
  have hn := n.isLt
  rw [Rect.mem_set_unit]
  constructor
  · intro h
    have a0 : offS n 0 ≤ (i 0).val ∧ (i 0).val < offS n 0 + 1 := h 0
    have a1 : offS n 1 ≤ (i 1).val ∧ (i 1).val < offS n 1 + 1 := h 1
    have a2 : offS n 2 ≤ (i 2).val ∧ (i 2).val < offS n 2 + 1 := h 2
    rw [offS_0] at a0; rw [offS_1] at a1; rw [offS_2] at a2
    omega
  · intro h a
    match a with
    | ⟨0, _⟩ => show offS n 0 ≤ (i 0).val ∧ (i 0).val < offS n 0 + 1; rw [offS_0]; omega
    | ⟨1, _⟩ => show offS n 1 ≤ (i 1).val ∧ (i 1).val < offS n 1 + 1; rw [offS_1]; omega
    | ⟨2, _⟩ => show offS n 2 ≤ (i 2).val ∧ (i 2).val < offS n 2 + 1; rw [offS_2]; omega
    | ⟨3, _⟩ => show offS n 3 ≤ (i 3).val ∧ (i 3).val < offS n 3 + 2; rw [offS_3]; omega
    | ⟨4, _⟩ => show offS n 4 ≤ (i 4).val ∧ (i 4).val < offS n 4 + 1024; rw [offS_4]; omega
theorem rectS_disj (n n' : Fin 12) (h : n ≠ n') : Disjoint (rectS n).set (rectS n').set := by
  rw [Finset.disjoint_left]
  intro i hi hi'
  rw [mem_rectS] at hi hi'
  exact h (Fin.ext (hi.trans hi'.symm))
theorem rectS_cover : Finset.univ.biUnion (fun n => (rectS n).set) = Finset.univ := by
  ext i
  simp only [Finset.mem_biUnion, Finset.mem_univ, true_and, iff_true]
  have h0 : (i 0).val < 2 := (i 0).isLt
  have h1 : (i 1).val < 2 := (i 1).isLt
  have h2 : (i 2).val < 3 := (i 2).isLt
  exact ⟨⟨6 * (i 0).val + 3 * (i 1).val + (i 2).val, by omega⟩, (mem_rectS _ i).mpr rfl⟩
theorem slotM_set (n : Fin 12) : (slotM n).view.set = (rectS n).set :=
  (View.set_reshape _ _).trans (View.set_slice_whole _ _)

theorem slot_split : iprop(∃ f : Buf (Elt F) ((c : Thread nD τ).loc cc0_scratch3), (c : Thread nD τ).loc cc0_scratch3 ↦{fullShare} f)
    ⊢ (bigSep Finset.univ fun n : Fin 12 => slotAny n c : sProp 𝕄) := by
  refine (split_any (ℓ := (c : Thread nD τ).loc cc0_scratch3) (fun b : Fin 12 => (rectS b).set) rectS_disj rectS_cover).trans
    (Entails.of_eq (bigSep_congr fun b _ => ?_))
  unfold slotAny
  rw [slotM_set]
theorem slot_join (X : Fin 12 → Vec F S2x1024 .f32) : (bigSep Finset.univ fun n : Fin 12 => slotAt n c (X n) : sProp 𝕄)
    ⊢ iprop(∃ f : Buf (Elt F) ((c : Thread nD τ).loc cc0_scratch3), (c : Thread nD τ).loc cc0_scratch3 ↦{fullShare} f) := by
  refine (Entails.of_eq (bigSep_congr fun b _ => ?_)).trans
    (Ring.pointsTo_blocks_join (fun b : Fin 12 => (rectS b).set) rectS_disj rectS_cover
      (fun b => (slotM b).view.rep (X b)) ((slotM 0).view.rep (X 0)))
  unfold slotAt
  rw [slotM_set]

/-- The slots, by the partner whose sends go to them, and half. -/
def ixN : Fin 6 ⊕ Fin 6 → Fin 12
  | .inl j => nOf j 0
  | .inr j => nOf j 1
theorem ixN_bij : Function.Bijective ixN := by decide
theorem slot_pairs : (bigSep Finset.univ fun n : Fin 12 => slotAny n c : sProp 𝕄)
    = iprop(bigSep Finset.univ (fun j : Fin 6 => slotAny (nOf j 0) c) ∗ bigSep Finset.univ (fun j : Fin 6 => slotAny (nOf j 1) c)) := by
  rw [bigSep_univ_equiv (Equiv.ofBijective ixN ixN_bij), bigSep_univ_sum]
  rfl

end Cert.Norm

end
-- ==== Proof.Norm.Launch.lean ====
/-
# The launch

Every device starts from its buffers, its rights and the credit it waits with; the body's run takes them to the finished
blocks of the output. The library's launch theorem makes a run of the whole machine of that: the arguments unchanged, every
semaphore back at zero, and each block of the output what `outV` says.
-/
module

public import proofs.«01_k».proof.Proof.Gen.KernelIdeal.Frame
public import proofs.«01_k».proof.Proof.Norm.Body
public import proofs.«01_k».proof.Proof.Norm.Deal
public import proofs.«01_k».proof.Proof.Norm.Buffers
public import Idealize.ShloMosaic.Lib.Pipeline.CollectiveSegs

@[expose] public section

noncomputable section

namespace Cert.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the devices hold at launch, as values -/

/-- A device's block of the input, and its two row vectors as its windows read them. -/
def xOf (c : Dev nD) : Vec F S2048x1024 .f32 := m ((c : Thread nD τ).loc main_arg0)
def gOf (c : Dev nD) : Vec F S1024 .f32 := iblk m c 0 t0_0
def bOf (c : Dev nD) : Vec F S1024 .f32 := iblk m c 1 t0_0
/-- Block `b` of device `c`'s output after the run. -/
def fin (c : Dev nD) (b : Fin 8) : Vec F S256x1024 .bf16 := outV (xOf m) (gOf m c) (bOf m c) c b

/-! ## Before and after the body -/

abbrev some0 (b : Ref sig .tc) (c : Dev nD) : sProp 𝕄 := iprop(∃ f : Buf (Elt F) ((c : Thread nD τ).loc b), (c : Thread nD τ).loc b ↦{fullShare} f)
def scratch (c : Dev nD) : sProp 𝕄 :=
  iprop(some0 cc0_scratch0 c ∗ some0 cc0_scratch1 c ∗ some0 cc0_scratch2 c ∗ some0 cc0_scratch3 c)
def start (c : Dev nD) : sProp 𝕄 :=
  iprop(ghost (Acc (xOf m)) c ∗ Pipeline.launchCred (owed 24) c ∗ levAts L lv
    ∗ ((c : Thread nD τ).loc main_arg0 ↦{fullShare} xOf m c) ∗ ((c : Thread nD τ).loc main_v1 ↦{fullShare} m ((c : Thread nD τ).loc main_v1)))
/-- The output with every block finished. -/
def done (c : Dev nD) : sProp 𝕄 :=
  iprop(∃ f : Vec F S2048x1024 .bf16, ⌜∀ b, (oM b).view.read (Elt F) f = fin m c b⌝ ∗ (c : Thread nD τ).loc main_v1 ↦{fullShare} f)
def left (c : Dev nD) : sProp 𝕄 :=
  iprop(unscopedSems0 c ∗ ((c : Thread nD τ).loc main_arg0 ↦{fullShare} xOf m c) ∗ done m c)
def Φ₀ (c : Dev nD) : sProp 𝕄 := iprop(start m c ∗ scratch c)
def Φ₁ (c : Dev nD) : sProp 𝕄 := iprop(left m c ∗ Pipeline.ownSems0 osem c ∗ scratch c)

/-- All that the body's run needs besides its debts and the row vectors. -/
theorem enter (c : Dev nD) : Φ₀ m c ⊢ (iprop(∃ K, records (Acc (xOf m)) K ∗ levAts L lv
    ∗ bigSep Finset.univ (fun j : Fin 6 => barR (F := F) j c) ∗ barW (F := F) c
    ∗ bigSep Finset.univ (fun b : Fin 8 => inR b c (xOf m c)) ∗ accPart 0 c (sumsOf 0 (xOf m c)) 0 ∗ accPart 1 c (sumsOf 1 (xOf m c)) 0
    ∗ bigSep Finset.univ (fun n : Fin 12 => sndR (F := F) n c) ∗ bigSep Finset.univ (fun n : Fin 12 => rcvW (F := F) n c)
    ∗ bigSep Finset.univ (fun b : Fin 8 => outR (F := F) b c)
    ∗ bigSep Finset.univ (fun j : Fin 6 => exitR (F := F) j c) ∗ exitW (F := F) c) : sProp 𝕄) := by
  unfold Φ₀ start scratch ghost copySems barR inR outR
  simp only [bigSep_sep']
  iintro ⟨⟨⟨%K, #Hrec, Hat, Ht, HsI, HsO⟩, Hc, #Hlev, Hx, Ho⟩, H0, H1, H2, H3⟩
  ihave Hk := (kit_intro (F := F) c) $$ [$Hat $Ht $Hc]
  ihave Hx := (Entails.of_eq (x_blocks c (xOf m c))) $$ Hx
  ihave Ho := (o_split (F := F) c _) $$ Ho
  ihave H0 := (xb_split (F := F) c) $$ H0
  ihave H1 := (ob_split (F := F) c) $$ H1
  ihave H2 := (acc_split (F := F) c (sumsOf 0 (xOf m c)) (sumsOf 1 (xOf m c))) $$ H2
  ihave H3 := (slot_split (F := F) c) $$ H3
  ihave H3 := (Entails.of_eq (slot_pairs (F := F) c)) $$ H3
  unfold kit
  icases Hk with ⟨HB, HbW, HS, HR, HE, HeW⟩
  icases H2 with ⟨H20, H21⟩
  icases H3 with ⟨H30, H31⟩
  iexists K
  isplitr; · iexact Hrec
  isplitr; · iexact Hlev
  iframe

/-- And all that it leaves. -/
theorem leave (c : Dev nD) : iprop(rest (barCell c) ∗ bigSep Finset.univ (fun b : Fin 8 => inZ b c (xOf m c))
     ∗ bigSep Finset.univ (fun b : Fin 8 => xbAt b c (blk b (xOf m c))) ∗ accAt 0 c fullShare (Tot (xOf m) 0 c)
     ∗ accAt 1 c fullShare (Tot (xOf m) 1 c) ∗ bigSep Finset.univ (fun n : Fin 12 => rest (sendCell n c))
     ∗ bigSep Finset.univ (fun n : Fin 12 => rest (recvCell n c)) ∗ bigSep Finset.univ (fun n : Fin 12 => rcvP (xOf m) n c)
     ∗ bigSep Finset.univ (fun b : Fin 8 => outZ b c (fin m c b)) ∗ rest (exitCell c)) ⊢ (Φ₁ m c : sProp 𝕄) := by
  unfold Φ₁ left scratch inZ outZ done rcvP
  rw [ownSems0_eq, unscopedSems0_eq]
  unfold copySems
  simp only [bigSep_sep']
  iintro ⟨HB, ⟨Hx, HsI⟩, H0, H20, H21, HS, HR, H3, ⟨Ho, H1, HsO⟩, HE⟩
  ihave Hx := (Entails.of_eq (x_blocks c (xOf m c)).symm) $$ Hx
  ihave Ho := (o_join (F := F) c _) $$ Ho
  ihave H0 := (xb_join (F := F) c _) $$ H0
  ihave H1 := (ob_join (F := F) c _) $$ H1
  ihave H2 := (acc_join (F := F) c _ _) $$ [$H20 $H21]
  ihave H3 := (slot_join (F := F) c (fun n => Acc (xOf m) (phN n) (chN n) (pd n c))) $$ H3
  iframe

/-! ## The pipeline's data and the body's obligation -/

def dats (_ : Fin 1) (c : Dev nD) : Dat τ (Elt F) Unit ℕ UU ℕ cfg0 c where
  A w := m ((cfg0.win w).arr.view.loc (c : Thread nD τ))
  after w t := match w with
    | 0 => iblk m c 0 t
    | 1 => iblk m c 1 t
  Φ t := match t with
    | ⟨0, _⟩ => Φ₀ m c
    | ⟨_ + 1, _⟩ => Φ₁ m c
  q _ := fullShare
  owed t := match t with
    | ⟨0, _⟩ => owed 24 c
    | ⟨_ + 1, _⟩ => 0

theorem before_0 (c : Dev nD) (d) : (dats m 0 c).before 0 t0_0 d = gOf m c :=
  ((dats m 0 c).before_in_eq_fetched 0 rfl (fun _ => rfl) (fun _ _ _ => rfl) (fun _ => rfl) t0_0 d).trans rfl
theorem before_1 (c : Dev nD) (d) : (dats m 0 c).before 1 t0_0 d = bOf m c :=
  ((dats m 0 c).before_in_eq_fetched 1 rfl (fun _ => rfl) (fun _ _ _ => rfl) (fun _ => rfl) t0_0 d).trans rfl

/-- A staging buffer at known contents. -/
abbrev stg (c : Dev nD) (b : Ref sig .tc) (X : b.ty.Contents (Elt F)) : sProp 𝕄 := (c : Thread nD τ).loc b ↦{fullShare} X
theorem stg_0 (c : Dev nD) (g : Vec F S1024 .f32) : (gAt (Memref.whole cc0_stg0_0) c g : sProp 𝕄) = stg c cc0_stg0_0 g := by
  have h : (Memref.whole cc0_stg0_0 : Memref sig .tc .vmem S1024 .f32).view.rep g = g :=
    (View.read_whole cc0_stg0_0 _).symm.trans (View.read_rep _ _)
  unfold gAt
  rw [h]
  show ((c : Thread nD τ).loc cc0_stg0_0 ↦[(View.whole cc0_stg0_0).set]{fullShare} g : sProp 𝕄) = _
  rw [View.set_whole]
theorem stg_1 (c : Dev nD) (g : Vec F S1024 .f32) : (gAt (Memref.whole cc0_stg1_0) c g : sProp 𝕄) = stg c cc0_stg1_0 g := by
  have h : (Memref.whole cc0_stg1_0 : Memref sig .tc .vmem S1024 .f32).view.rep g = g :=
    (View.read_whole cc0_stg1_0 _).symm.trans (View.read_rep _ _)
  unfold gAt
  rw [h]
  show ((c : Thread nD τ).loc cc0_stg1_0 ↦[(View.whole cc0_stg1_0).set]{fullShare} g : sProp 𝕄) = _
  rw [View.set_whole]

set_option maxRecDepth 4000 in
def bodyPre (c : Dev nD) : sProp 𝕄 :=
  iprop(Φ₀ m c ∗ (dats m 0 c).owesAt () t0_0.castSucc
    ∗ (∃ d, stg c cc0_stg0_0 ((dats m 0 c).before 0 t0_0 d)) ∗ (∃ d, stg c cc0_stg1_0 ((dats m 0 c).before 1 t0_0 d)))
def bodyPost (c : Dev nD) : sProp 𝕄 :=
  iprop(Φ₁ m c ∗ (dats m 0 c).owesAt () t0_0.succ
    ∗ stg c cc0_stg0_0 (gOf m c) ∗ stg c cc0_stg1_0 (bOf m c))

theorem owes_in (c : Dev nD) : (dats m 0 c).owesAt () t0_0.castSucc ⊢ (ow 24 c : sProp 𝕄) := by
  unfold Dat.owesAt Pipeline.owesWithin ow
  rw [show (dats m 0 c).owed t0_0.castSucc = owed 24 c from rfl]
  iintro ⟨%W, -, H⟩
  iexists W
  iexact H
theorem owes_out (c : Dev nD) : (ow 0 c : sProp 𝕄) ⊢ (dats m 0 c).owesAt () t0_0.succ := by
  unfold Dat.owesAt Pipeline.owesWithin ow
  rw [show (dats m 0 c).owed t0_0.succ = owed 0 c from rfl]
  iintro ⟨%W, H⟩
  iexists W
  isplitr; · ipureintro; exact fun _ _ => Or.inl trivial
  iexact H

set_option maxRecDepth 4000 in
theorem run_point (c : Dev nD) : bodyPre m c ⊢ go c (kp (Memref.whole cc0_stg0_0) (Memref.isWhole_whole _) (Memref.whole cc0_stg1_0) (Memref.isWhole_whole _)
    (cc0_body (F := F))) (fun _ => bodyPost m c) := by
  unfold bodyPre bodyPost
  iintro ⟨Hp, Ho, ⟨%d0, Hg⟩, ⟨%d1, Hb⟩⟩
  rw [before_0, before_1]
  ihave Ho := (owes_in m c) $$ Ho
  ihave Hp := (enter m c) $$ Hp
  icases Hp with ⟨%K, #Hrec, #Hlev, J, W, I, A0, A1, S, R, O, E, Z⟩
  ihave Hg := (Entails.of_eq (stg_0 (F := F) c (gOf m c)).symm) $$ Hg
  ihave Hb := (Entails.of_eq (stg_1 (F := F) c (bOf m c)).symm) $$ Hb
  iapply (run_body (Memref.whole cc0_stg0_0) (Memref.isWhole_whole _) (Memref.whole cc0_stg1_0) (Memref.isWhole_whole _) (xOf m) K c (gOf m c) (bOf m c))
    $$ [$Hrec $Hlev $Ho $J $W $I $A0 $A1 $S $R $Hg $Hb $O $E $Z]
  iintro ⟨HO, W, I, XB, A0, A1, S, R, V, Hg, Hb, O, Z⟩
  ihave Hg := (Entails.of_eq (stg_0 (F := F) c (gOf m c))) $$ Hg
  ihave Hb := (Entails.of_eq (stg_1 (F := F) c (bOf m c))) $$ Hb
  ihave HO := (owes_out m c) $$ HO
  isplitl [W I XB A0 A1 S R V O Z]
  · iapply (leave m c)
    unfold fin
    iframe
  iframe

set_option maxRecDepth 30000 in
/-- The library's body obligation on core `c`. -/
theorem body_obligation (c : Dev nD) : BodyObligation (dats m 0 c) (defs₀ (F := F)) 𝒱₀ () Set.univ := fun t => by
  rw [show t = t0_0 from fin_N0 t]
  rw [bigSep_W0, bigSep_W0]
  simp only [owns_whole]
  show bodyPre m c ⊢ go c (kp (Memref.whole cc0_stg0_0) (Memref.isWhole_whole _) (Memref.whole cc0_stg1_0) (Memref.isWhole_whole _)
    (cc0_body (F := F))) (fun _ => bodyPost m c)
  exact run_point m c

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owed 24) c ∗ prngReg c (ρ c) ∗ ghost (Acc (xOf m)) c)
      ⊢ |={Set.univ}=> iprop(start m c ∗ emp) := by
  rw [Pipeline.unscopedRestP_none, unscopedRest0_eq]
  unfold start
  iintro ⟨⟨Hx, Ho⟩, #Hlev, Hc, -, HG⟩
  imodintro
  isplitl
  · isplitl [HG]; · iexact HG
    isplitl [Hc]; · iexact Hc
    isplitr; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  exact Entails.refl _

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 24 (le_refl _) fun i _ => by
        rw [semLev_low _ (by fin_cases w <;> fin_cases s <;> decide)]
        revert i
        decide
    · show levAts L lv ⊢ MayWait _ _ _ 0
      rw [MayWait_zero]; iintro -; iempintro

/-! ## The run -/

/-- The launch's ghost state: the pipeline's, and the protocol's. -/
def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What is read of a final state on device `c`: the input unchanged, every block of the output finished. -/
def atEnd (c : Dev nD) (s : MemSt nD τ sig (Elt F)) : Prop :=
  (s.mem ((c : Thread nD τ).loc main_arg0) = m ((c : Thread nD τ).loc main_arg0)
    ∧ ∀ b, (oM b).view.read (Elt F) (s.mem ((c : Thread nD τ).loc main_v1)) = fin m c b)
  ∧ ∀ sm : SemLoc sig, sm.isScoped .tc = false → s.sem ((c.tc : Thread nD τ), sm) = 0

theorem left_read (c : Dev nD) (s' : Phys nD τ sig (Elt F)) : iprop(left m c ∗ emp ∗ SI s') ⊢ |={Set.univ}=> iprop(⌜atEnd m c s'.mem⌝ ∗ SI s') := by
  unfold left done
  iintro ⟨⟨Hu, Hx, ⟨%f, %hf, Ho⟩⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    refine ⟨⟨Buf.eq_of_forall_mem_univ hx, fun b => ?_⟩, hs⟩
    rw [show s'.mem.mem ((c : Thread nD τ).loc main_v1) = f from Buf.eq_of_forall_mem_univ ho]
    exact hf b
  · iexact HSI

set_option maxRecDepth 8000 in
/-- From any memory with every semaphore at zero, for any float values, every fair run of the sixteen devices ends: the
    arguments as they were, every block of the output finished, every semaphore at zero. -/
theorem run_main : θ_run defs (onTc (τ := τ) (main (F := F))) ⟨m, fun _ => 0, ρ⟩ (fun r =>
    (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ ∀ b, (oM b).view.read (Elt F) (r.2.mem ((c : Thread nD τ).loc main_v1)) = fin m c b)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed 24) (howed₀ := fun _ => rfl) (howedN := fun _ => rfl)
    (L := L) (lv := lv) (hL := L_of_ne) (hwaits := waits m)
    (G := dealt (Acc (xOf m))) (G' := ghost (Acc (xOf m))) (u₀ := u₀)
    (hu₀ := by
      unfold u₀
      iintro Hu
      ihave H := (ownU_split _ _) $$ Hu
      icases H with ⟨HP, HX⟩
      imod (fund_ring (Acc (xOf m))) $$ HX with HG
      imodintro
      isplitl [HP] <;> iassumption)
    (hglob := glob (Acc (xOf m)))
    (hA := fun _ _ => rfl) (hpf := fun _ k => k.elim0)
    (X := start m) (Y := left m) (Z := fun _ => iprop(emp))
    (hX := start_intro m ρ) (hin := phi0_intro m) (hout := phi1_exit m)
    (QY := atEnd m) (hY := left_read m)
    (hQ := fun s h hs => ⟨fun c => ⟨⟨(h c).2.2.1.1, ((h c).1 0).trans ((dats m 0 c).arrAt_in 0 rfl _), ((h c).1 1).trans ((dats m 0 c).arrAt_in 1 rfl _)⟩,
      (h c).2.2.1.2⟩, sem_eq_zero hs fun c => (h c).2.2.2⟩)

end Cert.Norm

end
-- ==== Proof.Norm.Sums.lean ====
/-
# What the sums are

Over the extended reals a half's sums after the two exchanges are, row by row, the sums over every device and every column.
-/
module

public import proofs.«01_k».proof.Proof.Norm.Take
public import Idealize.ShloMosaic.Lib.Pointwise

@[expose] public section

noncomputable section

namespace Cert.Norm

open Cert.KernelIdeal Cert.KernelIdeal.Gen
open Idealize.ShloMosaic
open Idealize.ShloMosaic.TcCoe

/-- The word itself, or its square. -/
def pw (s : Fin 2) (y : EReal) : EReal := match s with | 0 => y | 1 => y * y

theorem stat_apply (s : Fin 2) (v : Vec Ideal S256x1024 .f32) (r : Fin 256) :
    statP (F := Ideal) s v (ix3 (0 : Fin 1) (0 : Fin 1) r) = ∑ k : Fin 1024, pw s (v (ix2 r k)) := by
  match s with
  | 0 => unfold statP; pointwise [k0_pay1, pw]
  | 1 => unfold statP; pointwise [k0_pay2, pw]

/-- Row `r` of block `b`. -/
def rowIx (b : Fin 8) (r : Fin 256) : Fin 2048 := ⟨256 * b.val + r.val, by omega⟩

theorem emb_x (b : Fin 8) (r : Fin 256) (k : Fin 1024) : (xM b).view.emb (ix2 r k : S256x1024.Idx) = (ix2 (rowIx b r) k : S2048x1024.Idx) := by
  show (Rect.unit (s := S2048x1024) (offB b) S256x1024.size (inbB b)).emb (ix2 r k : S256x1024.Idx) = _
  funext a
  apply Fin.ext
  match a with
  | ⟨0, _⟩ => show offB b 0 + 1 * r.val = 256 * b.val + r.val; rw [offB_0]; omega
  | ⟨1, _⟩ => show offB b 1 + 1 * k.val = k.val; rw [show offB b 1 = 0 by revert b; decide]; omega

theorem blk_apply (b : Fin 8) (f : Vec Ideal S2048x1024 .f32) (r : Fin 256) (k : Fin 1024) :
    blk (F := Ideal) b f (ix2 r k) = f (ix2 (rowIx b r) k) := by
  unfold blk
  rw [View.read_apply]
  exact congrArg f (emb_x b r k)

/-- The `k`-th block of half `ch`. -/
def bOf4 (ch : Fin 2) (k : Fin 4) : Fin 8 := ⟨4 * ch.val + k.val, by omega⟩
/-- Row `r` of a half's `k`-th block, among the half's rows. -/
def halfIx (k : Fin 4) (r : Fin 256) : Fin 1024 := ⟨256 * k.val + r.val, by omega⟩

theorem sumsOf_apply (ch : Fin 2) (f : Vec Ideal S2048x1024 .f32) (s : Fin 2) (k : Fin 4) (r : Fin 256) :
    sumsOf (F := Ideal) ch f (ix2 s (halfIx k r)) = ∑ j : Fin 1024, pw s (f (ix2 (rowIx (bOf4 ch k) r) j)) := by
  have hb : (4 * ch.val + (halfIx k r).val / 256) = (bOf4 ch k).val := by
    show 4 * ch.val + (256 * k.val + r.val) / 256 = 4 * ch.val + k.val
    omega
  have hr : (halfIx k r).val % 256 = r.val := by
    show (256 * k.val + r.val) % 256 = r.val
    omega
  have e : ∀ (n m : ℕ) (hn : n < 8) (hm : m < 256), n = (bOf4 ch k).val → m = r.val →
      statP (F := Ideal) s (blk ⟨n, hn⟩ f) (ValueIdx.ix3 (0 : Fin 1) (0 : Fin 1) ⟨m, hm⟩)
        = ∑ j : Fin 1024, pw s (f (ix2 (rowIx (bOf4 ch k) r) j)) := by
    intro n m hn hm h1 h2
    subst h1 h2
    rw [← ix3_eq_valueIdx]
    refine (stat_apply s _ r).trans ?_
    exact Finset.sum_congr rfl fun j _ => congrArg (pw s) (blk_apply _ f r j)
  exact e _ _ _ _ hb hr

/-- A device, its row of the grid, and the same of the devices of its column: every device once. -/
def tour (c : Dev nD) : List (Dev nD) :=
  let q := fun e : Dev nD => [e, pd 0 e, pd 1 e, pd 2 e]
  q c ++ (q (pd 6 c) ++ (q (pd 7 c) ++ q (pd 8 c)))
theorem tour_perm : ∀ c : Dev nD, (tour c).Perm (List.finRange 16) := by decide +kernel

theorem sum_tour (f : Dev nD → EReal) (c : Dev nD) : ((tour c).map f).sum = ∑ d : Dev nD, f d := by
  rw [((tour_perm c).map f).sum_eq]
  rw [← List.ofFn_eq_map]
  exact List.sum_ofFn

theorem Tot_apply (x : Dev nD → Vec Ideal S2048x1024 .f32) (ch : Fin 2) (c : Dev nD) (i : S2x1024.Idx) :
    Tot (F := Ideal) x ch c i = ∑ d : Dev nD, sumsOf ch (x d) i := by
  rw [← sum_tour (fun d => sumsOf (F := Ideal) ch (x d) i) c]
  pointwise [Tot, comb, Acc]
  simp only [tour, List.map_append, List.map_cons, List.map_nil, List.sum_append, List.sum_cons, List.sum_nil, add_zero, add_assoc]

end Cert.Norm

end
-- ==== Proof.Norm.Rows.lean ====
/-
# One entry of either result

An entry of the kernel's output from its row's two sums, an entry of the reference's from its row, and that the two are one
number when the row is finite.
-/
module

public import proofs.«01_k».proof.Proof.Norm.Sums
public import proofs.«01_k».proof.Proof.Gen.ReferenceIdeal.Run
public import Idealize.ShloMosaic.Lib.IdealHost

@[expose] public section

noncomputable section

namespace Cert.Norm

open Cert.KernelIdeal Cert.KernelIdeal.Gen
open Idealize.ShloMosaic
open Idealize.ShloMosaic.TcCoe

/-- The constant added to the variance. -/
def eps : EReal := Ideal.ofBits .f32 0x3727C5AC#32
/-- The reciprocal of the number of columns. -/
def cinv : EReal := Ideal.ofBits .f32 0x38800000#32
/-- The number of columns. -/
def cols : EReal := Ideal.ofBits .f32 0x46800000#32

/-- An entry of the kernel's output: `S` and `Q` its row's sum and sum of squares. -/
def entK (S Q x g b : EReal) : EReal :=
  (x - S * cinv) * Ideal.rsqrt (Q * cinv - S * cinv * (S * cinv) + eps) * g + b

theorem outB_apply (T : Vec Ideal S2x1024 .f32) (g bt : Vec Ideal S1024 .f32) (X : Vec Ideal S256x1024 .f32) (k : Fin 4) (r : Fin 256) (j : Fin 1024) :
    outB (F := Ideal) T g bt X k (ix2 r j)
      = entK (T (ix2 (0 : Fin 2) (halfIx k r))) (T (ix2 (1 : Fin 2) (halfIx k r))) (X (ix2 r j)) (g (ix1 j)) (bt (ix1 j)) := by
  have hT : ∀ (s : Fin 2) (n : ℕ) (h : n < 1024), n = (halfIx k r).val → rowOf (F := Ideal) s T (ix3 (0 : Fin 1) (0 : Fin 1) ⟨n, h⟩) = T (ix2 s (halfIx k r)) := by
    intro s n h e
    subst e
    unfold rowOf
    rw [← ix2_eq_valueIdx]
    rfl
  match k with
  | 0 => unfold outB entK; pointwise [k0_pay40, k0_pay39, k0_pay38, k0_pay37, k0_pay36, k0_pay35]; simp only [hT 0 _ _ (Nat.zero_add _).symm, hT 1 _ _ (Nat.zero_add _).symm]; rfl
  | 1 => unfold outB entK; pointwise [k0_pay41, k0_pay39, k0_pay38, k0_pay37, k0_pay36, k0_pay35]; simp only [hT 0 (256 + r.val) (by omega) rfl, hT 1 (256 + r.val) (by omega) rfl]; rfl
  | 2 => unfold outB entK; pointwise [k0_pay42, k0_pay39, k0_pay38, k0_pay37, k0_pay36, k0_pay35]; simp only [hT 0 (512 + r.val) (by omega) rfl, hT 1 (512 + r.val) (by omega) rfl]; rfl
  | 3 => unfold outB entK; pointwise [k0_pay43, k0_pay39, k0_pay38, k0_pay37, k0_pay36, k0_pay35]; simp only [hT 0 (768 + r.val) (by omega) rfl, hT 1 (768 + r.val) (by omega) rfl]; rfl

/-! ## The reference -/

/-- The mean of a row. -/
def meanR (X : Fin 16384 → EReal) : EReal := Ideal.div (∑ k, X k) cols
/-- An entry of the reference's result, `X` its row. -/
def entR (X : Fin 16384 → EReal) (x g b : EReal) : EReal :=
  Ideal.div (g * (x - meanR X)) (Ideal.sqrt (Ideal.div (∑ k, (X k - meanR X) * (X k - meanR X)) cols + eps)) + b

/-- The reference's result on whole arrays. -/
def refV (X : FVec Ideal Cert.ReferenceIdeal.S2048x16384 .f32) (G B : FVec Ideal Cert.ReferenceIdeal.S16384 .f32) : FVec Ideal Cert.ReferenceIdeal.S2048x16384 .bf16 :=
  let s0 : FVec Ideal Cert.ReferenceIdeal.S_ .f32 := constant _ .f32 0x00000000#32
  let n0 : FVec Ideal Cert.ReferenceIdeal.S_ .f32 := constant _ .f32 0x46800000#32
  let n1 : FVec Ideal Cert.ReferenceIdeal.S_ .f32 := subf n0 (sitofp .f32 (constantI Cert.ReferenceIdeal.S_ 32 0#32))
  let row := fun (y : FVec Ideal Cert.ReferenceIdeal.S2048x1 .f32) => broadcastInDim Cert.ReferenceIdeal.S2048x16384 ![0, 1] Cert.ReferenceIdeal.Gen.bcast_S2048x1_S2048x16384_0_1 y
  let col := fun (y : FVec Ideal Cert.ReferenceIdeal.S16384 .f32) => broadcastInDim Cert.ReferenceIdeal.S2048x16384 ![0, 1] Cert.ReferenceIdeal.Gen.bcast_S1x16384_S2048x16384_0_1
    (broadcastInDim Cert.ReferenceIdeal.S1x16384 ![1] Cert.ReferenceIdeal.Gen.bcast_S16384_S1x16384_1 y)
  let one := fun (y : FVec Ideal Cert.ReferenceIdeal.S_ .f32) => broadcastInDim Cert.ReferenceIdeal.S2048x1 ![] Cert.ReferenceIdeal.Gen.bcast_S_S2048x1 y
  let tot := fun (y : FVec Ideal Cert.ReferenceIdeal.S2048x16384 .f32) => broadcastInDim Cert.ReferenceIdeal.S2048x1 ![0] Cert.ReferenceIdeal.Gen.bcast_S2048_S2048x1_0
    (Host.reduceAdd y s0 Cert.ReferenceIdeal.Gen.reducesTo_S2048x16384_S2048_d1 Cert.ReferenceIdeal.Gen.h_S_)
  let d := subf X (row (Host.divf (tot X) (one n0)))
  truncf .bf16 (addf (Host.divf (mulf (col G) d) (row (Host.sqrt (addf
    (select (broadcastInDim Cert.ReferenceIdeal.S2048x1 ![] Cert.ReferenceIdeal.Gen.bcast_S_S2048x1 (cmpf .ogt n1 s0)) (Host.divf (tot (mulf d d)) (one n1)) (one (id (constant _ .f32 0x7FC00000#32))))
    (one (constant _ .f32 0x3727C5AC#32)))))) (col B)) Cert.ReferenceIdeal.Gen.bitsLt_bf16_f32

theorem cols_eq : cols = ((16384 : ℝ) : EReal) := by
  unfold cols
  simp [Ideal.ofBits, Ideal.ieee, -EReal.coe_mul]; norm_num

theorem refV_apply (X : FVec Ideal Cert.ReferenceIdeal.S2048x16384 .f32) (G B : FVec Ideal Cert.ReferenceIdeal.S16384 .f32) (i : Fin 2048) (q : Fin 16384) :
    refV X G B (ix2 i q) = entR (fun k => X (ix2 i k)) (X (ix2 i q)) (G (ix1 q)) (B (ix1 q)) := by
  unfold entR meanR
  have h0 : (FloatOps.sitofp .f32 (0#32 : BitVec 32) : Idealize.ShloMosaic.Ideal .f32) = (0 : EReal) := by
    show (((0#32 : BitVec 32).toInt : ℝ) : EReal) = 0
    simp
  have hp : (0 : EReal) < Ideal.ofBits .f32 0x46800000#32 := by
    rw [show Ideal.ofBits .f32 0x46800000#32 = _ from cols_eq]
    exact EReal.coe_pos.mpr (by norm_num)
  pointwise [refV]
  rw [h0, sub_zero, if_pos hp]
  rfl

theorem cinv_eq : cinv = ((1 / 16384 : ℝ) : EReal) := by
  unfold cinv
  simp [Ideal.ofBits, Ideal.ieee, -EReal.coe_mul]; norm_num

theorem eps_eq : ∃ e : ℝ, 0 < e ∧ eps = (e : EReal) := by
  unfold eps
  refine ⟨_, ?_, by simp [Ideal.ofBits, Ideal.ieee, -EReal.coe_mul]; rfl⟩
  norm_num

/-- The mean square less the squared mean is the mean squared deviation. -/
theorem var_eq (y : Fin 16384 → ℝ) :
    (∑ k, y k * y k) * (1 / 16384) - (∑ k, y k) * (1 / 16384) * ((∑ k, y k) * (1 / 16384))
      = (∑ k, (y k - (∑ k, y k) * (1 / 16384)) * (y k - (∑ k, y k) * (1 / 16384))) * (1 / 16384) := by
  generalize hμ : (∑ k, y k) * (1 / 16384 : ℝ) = μ
  have hS : ∑ k, y k = 16384 * μ := by rw [← hμ]; ring
  have h : ∀ k, (y k - μ) * (y k - μ) = y k * y k - 2 * μ * y k + μ * μ := fun k => by ring
  simp only [h, Finset.sum_add_distrib, Finset.sum_sub_distrib, ← Finset.mul_sum, hS, Finset.sum_const, Finset.card_univ, Fintype.card_fin, nsmul_eq_mul]
  push_cast
  ring

theorem coe_sum' (y : Fin 16384 → ℝ) : (∑ k, ((y k : ℝ) : EReal)) = ((∑ k, y k : ℝ) : EReal) :=
  (map_sum (⟨⟨Real.toEReal, EReal.coe_zero⟩, EReal.coe_add⟩ : ℝ →+ EReal) y Finset.univ).symm

/-- On a finite row the two entries are one number. -/
theorem ent_eq (X : Fin 16384 → EReal) (x g b : EReal) (y : Fin 16384 → ℝ) (hX : ∀ k, X k = (y k : EReal)) (z : ℝ) (hx : x = (z : EReal)) :
    entK (∑ k, X k) (∑ k, X k * X k) x g b = entR X x g b := by
  obtain ⟨e, he, hE⟩ := eps_eq
  have h0 : (16384 : ℝ) ≠ 0 := by norm_num
  have hS : (∑ k, X k) = ((∑ k, y k : ℝ) : EReal) := by simp only [hX]; exact coe_sum' y
  have hQ : (∑ k, X k * X k) = ((∑ k, y k * y k : ℝ) : EReal) := by
    simp only [hX, ← EReal.coe_mul]; exact coe_sum' fun k => y k * y k
  have hm : meanR X = (((∑ k, y k) * (1 / 16384) : ℝ) : EReal) := by
    unfold meanR
    rw [hS, cols_eq, Ideal.div_coe h0, ← EReal.coe_mul]
  have hd : (∑ k, (X k - meanR X) * (X k - meanR X)) = ((∑ k, (y k - (∑ k, y k) * (1 / 16384)) * (y k - (∑ k, y k) * (1 / 16384)) : ℝ) : EReal) := by
    simp only [hX, hm, ← EReal.coe_sub, ← EReal.coe_mul]
    exact coe_sum' fun k => (y k - (∑ k, y k) * (1 / 16384)) * (y k - (∑ k, y k) * (1 / 16384))
  unfold entK entR
  rw [hd, hm, hS, hQ, hx, cols_eq, cinv_eq, hE, Ideal.div_coe h0]
  simp only [← EReal.coe_mul, ← EReal.coe_sub, ← EReal.coe_add]
  rw [var_eq]
  generalize hv : (∑ k, (y k - (∑ k, y k) * (1 / 16384)) * (y k - (∑ k, y k) * (1 / 16384))) * (1 / 16384 : ℝ) = v
  have hv0 : 0 ≤ v := by
    rw [← hv]
    exact mul_nonneg (Finset.sum_nonneg fun k _ => mul_self_nonneg _) (by norm_num)
  have hp : 0 < v + e := by linarith
  have hs : Real.sqrt (v + e) ≠ 0 := (Real.sqrt_pos.mpr hp).ne'
  rw [Ideal.rsqrt_coe, Ideal.sqrt_coe, if_neg (not_lt.mpr hp.le), if_neg hp.ne', if_neg (not_lt.mpr hp.le), Ideal.div_coe hs, one_div (Real.sqrt (v + e))]
  rw [mul_comm _ g, ← mul_assoc]

end Cert.Norm

end
-- ==== Proof.Norm.Value.lean ====
/-
# The kernel's output and the reference's

Every device's output is its block of the reference's result, when the input is finite.
-/
module

public import proofs.«01_k».proof.Proof.Norm.Rows
public import proofs.«01_k».proof.Proof.Norm.Launch
public import proofs.«01_k».proof.Pre_x_finite_KernelIdeal
public import Idealize.ShloMosaic.Lib.Layout
public import Idealize.ShloMosaic.Lib.ReduceAll

@[expose] public section

noncomputable section

namespace Cert.Norm

open Cert.KernelIdeal Cert.KernelIdeal.Gen
open Idealize.ShloMosaic
open Idealize.ShloMosaic.TcCoe
open Idealize.SL.Sem

/-! ## Blocks of the whole arrays -/

/-- Where column `j` of device `d`'s block is in the whole array. -/
def colIx (d : Dev nD) (j : Fin 1024) : Fin 16384 := ⟨d.val * 1024 + j.val, by have h : d.val < 16 := d.isLt; omega⟩

theorem block2_apply {α : Type} (X : (⟨2, ![2048, 16384]⟩ : Shape).Idx → α) (d : Dev nD) (i : Fin 2048) (j : Fin 1024) :
    Layout.block ⟨2, ![2048, 1024]⟩ ⟨2, ![2048, 16384]⟩ 1 16 d X (by decide) (ix2 i j) = X (ix2 i (colIx d j)) := by
  rw [Layout.block_apply]
  refine congrArg X ?_
  funext a
  apply Fin.ext
  match a with
  | ⟨0, _⟩ => rfl
  | ⟨1, _⟩ => rfl

theorem block1_apply {α : Type} (X : (⟨1, ![16384]⟩ : Shape).Idx → α) (d : Dev nD) (j : Fin 1024) :
    Layout.block ⟨1, ![1024]⟩ ⟨1, ![16384]⟩ 0 16 d X (by decide) (ix1 j) = X (ix1 (colIx d j)) := by
  rw [Layout.block_apply]
  refine congrArg X ?_
  funext a
  apply Fin.ext
  match a with
  | ⟨0, _⟩ => rfl

/-- A sum over the whole row, device by device. -/
theorem sum_cols (f : Fin 16384 → EReal) : ∑ d : Dev nD, ∑ j : Fin 1024, f (colIx d j) = ∑ q, f q := by
  rw [← Fintype.sum_prod_type']
  refine Fintype.sum_equiv (finProdFinEquiv (m := 16) (n := 1024)) _ _ fun p => congrArg f (Fin.ext ?_)
  show p.1.val * 1024 + p.2.val = p.2.val + 1024 * p.1.val
  omega

/-! ## One block of the output -/

theorem bOf4_div (b : Fin 8) (h : b.val / 4 < 2) (h' : b.val % 4 < 4) : bOf4 ⟨b.val / 4, h⟩ ⟨b.val % 4, h'⟩ = b := by
  apply Fin.ext
  show 4 * (b.val / 4) + b.val % 4 = b.val
  omega

section Pure
variable (x : Dev nD → Vec Ideal S2048x1024 .f32) (X : (⟨2, ![2048, 16384]⟩ : Shape).Idx → EReal)
  (hx : ∀ d i j, x d (ix2 i j) = X (ix2 i (colIx d j)))
include hx

theorem tot_row (c : Dev nD) (ch : Fin 2) (k : Fin 4) (r : Fin 256) (s : Fin 2) :
    Tot (F := Ideal) x ch c (ix2 s (halfIx k r)) = ∑ q : Fin 16384, pw s (X (ix2 (rowIx (bOf4 ch k) r) q)) := by
  rw [Tot_apply, ← sum_cols]
  refine Finset.sum_congr rfl fun d _ => ?_
  rw [sumsOf_apply]
  exact Finset.sum_congr rfl fun j _ => congrArg (pw s) (hx d _ j)

theorem outV_apply (fin' : ∀ i, ∃ y : ℝ, X i = (y : EReal)) (G B : (⟨1, ![16384]⟩ : Shape).Idx → EReal) (c : Dev nD) (g bt : Vec Ideal S1024 .f32)
    (hg : ∀ j, g (ix1 j) = G (ix1 (colIx c j))) (hb : ∀ j, bt (ix1 j) = B (ix1 (colIx c j))) (b : Fin 8) (r : Fin 256) (j : Fin 1024) :
    outV (F := Ideal) x g bt c b (ix2 r j) = refV X G B (ix2 (rowIx b r) (colIx c j)) := by
  choose y hy using fin'
  rw [refV_apply]
  unfold outV
  rw [outB_apply, tot_row x X hx, tot_row x X hx, bOf4_div, blk_apply, hx, hg, hb]
  exact ent_eq _ _ _ _ (fun k => y _) (fun k => hy _) (y _) (hy _)
end Pure

/-! ## The whole output -/

theorem emb_o (b : Fin 8) (r : Fin 256) (k : Fin 1024) : (oM b).view.emb (ix2 r k : S256x1024.Idx) = (ix2 (rowIx b r) k : S2048x1024.Idx) := emb_x b r k

theorem whole_of_blocks (f : Vec Ideal S2048x1024 .bf16) (v : Vec Ideal S2048x1024 .bf16)
    (h : ∀ (b : Fin 8) (r : Fin 256) (j : Fin 1024), (oM b).view.read (Elt Ideal) f (ix2 r j) = v (ix2 (rowIx b r) j)) : f = v := by
  funext i
  rw [eq_ix2 i]
  have h0 : (i 0).val < 2048 := (i 0).isLt
  have hi : rowIx ⟨(i 0).val / 256, by omega⟩ ⟨(i 0).val % 256, by omega⟩ = i 0 := by
    apply Fin.ext
    show 256 * ((i 0).val / 256) + (i 0).val % 256 = (i 0).val
    omega
  have e := h ⟨(i 0).val / 256, by omega⟩ ⟨(i 0).val % 256, by omega⟩ (i 1)
  rw [View.read_apply] at e
  refine Eq.trans ?_ (e.trans (congrArg (fun a => v (ix2 a (i 1))) hi))
  exact congrArg f ((congrArg (fun a => ix2 a (i 1)) hi).symm.trans (emb_o _ _ _).symm)

variable (m : (ℓ : Loc nD τ sig) → Buf (Elt Ideal) ℓ)

theorem gOf_eq (c : Dev nD) (j : Fin 1024) : gOf (F := Ideal) m c (ix1 j) = m ((c : Thread nD τ).loc main_arg1) (ix1 j) := by
  unfold gOf iblk
  rw [View.read_apply]
  refine congrArg (m ((c : Thread nD τ).loc main_arg1)) ?_
  funext a
  apply Fin.ext
  match a with
  | ⟨0, _⟩ => show 0 + 1 * j.val = j.val; omega

theorem bOf_eq (c : Dev nD) (j : Fin 1024) : bOf (F := Ideal) m c (ix1 j) = m ((c : Thread nD τ).loc main_arg2) (ix1 j) := by
  unfold bOf iblk
  rw [View.read_apply]
  refine congrArg (m ((c : Thread nD τ).loc main_arg2)) ?_
  funext a
  apply Fin.ext
  match a with
  | ⟨0, _⟩ => show 0 + 1 * j.val = j.val; omega

/-! ## The condition -/

instance preFacts : Cert.Pre_x_finite_KernelIdeal.Facts where
  bcast_S_S2048x1024 := by decide
  reducesTo_S2048x1024_S_d0_1 := by decide
  h_S_ := by decide

theorem real_of_pre (x : Vec Ideal S2048x1024 .f32) (g b : Vec Ideal S1024 .f32)
    (h : Cert.Pre_x_finite_KernelIdeal.fn (F := Ideal) x g b = fun _ => 1#1) (i : S2048x1024.Idx) : ∃ y : ℝ, x i = (y : EReal) := by
  have h1 := congrFun h (ix0 : (⟨0, ![]⟩ : Shape).Idx)
  unfold Cert.Pre_x_finite_KernelIdeal.fn at h1
  haveI : Subsingleton (Cert.Pre_x_finite_KernelIdeal.S_).Idx := ⟨fun a b => funext fun k => k.elim0⟩
  have h2 := Host.reduce_andi_all _ _ _ _ _ h1 i
  pointwise [] at h2
  have hi : Ideal.ofBits .f32 0x7F800000#32 = (⊤ : EReal) := by simp [Ideal.ofBits, Ideal.ieee]
  have h3 : (max (x i) (-(x i)) : EReal) < ⊤ := by
    by_contra hn
    have h4 : ¬ ((FloatOps.absf (x i) : Idealize.ShloMosaic.Ideal .f32) < Ideal.ofBits .f32 0x7F800000#32) := by rw [hi]; exact hn
    rw [decide_eq_false h4] at h2
    exact absurd h2 (by decide)
  obtain ⟨ha, hb⟩ := max_lt_iff.mp h3
  exact ⟨(x i : EReal).toReal, (EReal.coe_toReal ha.ne fun e => by rw [e, EReal.neg_bot] at hb; exact lt_irrefl _ hb).symm⟩

/-! ## The run, with the value -/

/-- Device by device, the output is the block of the reference's result on the whole arrays. -/
theorem run_value (ρ : Dev nD → PrngReg) (X : (⟨2, ![2048, 16384]⟩ : Shape).Idx → EReal) (G B : (⟨1, ![16384]⟩ : Shape).Idx → EReal)
    (hpre : ∀ c : Dev nD, Cert.Pre_x_finite_KernelIdeal.fn (F := Ideal) (m ((c : Thread nD τ).loc main_arg0)) (m ((c : Thread nD τ).loc main_arg1))
      (m ((c : Thread nD τ).loc main_arg2)) = fun _ => 1#1)
    (hX : ∀ c : Dev nD, m ((c : Thread nD τ).loc main_arg0) = Layout.block ⟨2, ![2048, 1024]⟩ ⟨2, ![2048, 16384]⟩ 1 16 c X)
    (hG : ∀ c : Dev nD, m ((c : Thread nD τ).loc main_arg1) = Layout.block ⟨1, ![1024]⟩ ⟨1, ![16384]⟩ 0 16 c G)
    (hB : ∀ c : Dev nD, m ((c : Thread nD τ).loc main_arg2) = Layout.block ⟨1, ![1024]⟩ ⟨1, ![16384]⟩ 0 16 c B) :
    θ_run defs (onTc (τ := τ) (main (F := Ideal))) ⟨m, fun _ => 0, ρ⟩ (fun r => ∀ c : Dev nD,
      r.2.mem ((c : Thread nD τ).loc main_v1) = Layout.block ⟨2, ![2048, 1024]⟩ ⟨2, ![2048, 16384]⟩ 1 16 c (refV X G B)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  have hx : ∀ d i j, xOf (F := Ideal) m d (ix2 i j) = X (ix2 i (colIx d j)) := fun d i j => (congrFun (hX d) (ix2 i j)).trans (block2_apply X d i j)
  have hfin : ∀ i, ∃ y : ℝ, X i = (y : EReal) := by
    intro i
    have h1 : (i 1).val < 16384 := (i 1).isLt
    obtain ⟨y, hy⟩ := real_of_pre _ _ _ (hpre ⟨(i 1).val / 1024, by show _ < 16; omega⟩) (ix2 (i 0) ⟨(i 1).val % 1024, by omega⟩)
    refine ⟨y, Eq.trans ?_ hy⟩
    refine Eq.trans (congrArg X ?_) (hx ⟨(i 1).val / 1024, by show _ < 16; omega⟩ (i 0) ⟨(i 1).val % 1024, by omega⟩).symm
    refine (eq_ix2 i).trans (congrArg (ix2 (i 0)) (Fin.ext ?_))
    show (i 1).val = (i 1).val / 1024 * 1024 + (i 1).val % 1024
    omega
  refine (θ_run defs _ _).mono (fun r h c => ?_) (run_main (F := Ideal) m ρ)
  obtain ⟨⟨e0, e1, e2⟩, hv⟩ := h.1 c
  refine ⟨whole_of_blocks _ _ fun b r' j => ?_, e0, e1, e2⟩
  rw [hv b, block2_apply]
  exact outV_apply _ X hx hfin G B c _ _ (fun j => (gOf_eq m c j).trans ((congrFun (hG c) (ix1 j)).trans (block1_apply G c j)))
    (fun j => (bOf_eq m c j).trans ((congrFun (hB c) (ix1 j)).trans (block1_apply B c j))) b r' j

end Cert.Norm

end
-- ==== Proof.lean ====
/-
# The claims

The kernel, over words and over the extended reals, and the reference run to their ends and leave their arguments and every
counter as they were; on a finite input every device's output is its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Norm.Launch
public import proofs.«01_k».proof.Proof.Norm.Value
public import Idealize.ShloMosaic.Adequacy
public import Idealize.ShloMosaic.Init

@[expose] public section

noncomputable section

namespace Cert.Proof

open Idealize.ShloMosaic Idealize.SL.Sem

instance refPreFacts : Cert.Pre_x_finite_ReferenceIdeal.Facts where
  bcast_S_S2048x16384 := by decide
  reducesTo_S2048x16384_S_d0_1 := by decide
  h_S_ := by decide

/-- The two printings of the kernel have one body, and so one table. -/
theorem body_eq : Cert.Kernel.cc0_body (F := Bits) = Cert.KernelIdeal.cc0_body (F := Bits) := rfl
theorem table_eq : Cert.Kernel.defs₀ (F := Bits) = Cert.KernelIdeal.defs₀ (F := Bits) := by
  refine congrArg Defs.onTc ?_
  funext l a
  match l, a with
  | ⟨0, _⟩, (t, s) => rfl
theorem defs_eq : Cert.Kernel.defs (F := Bits) = Cert.KernelIdeal.defs (F := Bits) :=
  congrArg (Pipeline.defs (Cert.KernelIdeal.pcfgs (F := Bits))) table_eq

/-- The kernel's run over words. -/
theorem frame_kernel : Cert.quiescent_Kernel := fun m ρ _ => by
  have k := (θ_run Cert.KernelIdeal.defs _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)
    (fun _ h => ⟨fun c => (h.1 c).1, h.2⟩) (Cert.Norm.run_main (F := Bits) m ρ)
  rw [← defs_eq] at k
  exact k

/-- The kernel's run over the extended reals. -/
theorem frame_ideal : Cert.quiescent_KernelIdeal := fun m ρ _ =>
  (θ_run Cert.KernelIdeal.defs _ _).mono (fun _ h => ⟨fun c => (h.1 c).1, h.2⟩) (Cert.Norm.run_main (F := Ideal) m ρ)

/-- The reference's run. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value. -/
theorem value : Cert.algebraic_KernelIdeal_ReferenceIdeal_pre_x_finite_KernelIdeal := fun m ρ m' ρ' hpre hb =>
  ⟨Cert.Norm.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    Cert.Norm.run_value m ρ _ _ _ hpre (fun c => (hb c).1) (fun c => (hb c).2.1) (fun c => (hb c).2.2),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.Norm.preFacts, refPreFacts,
    frame_kernel, frame_ideal, fun m ρ _ => frame_ideal m ρ trivial, frame_reference, fun m ρ _ => frame_reference m ρ trivial, trivial, value⟩

end Cert.Proof

end
